-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2]⟩ ⟨2, ![512, 4]⟩ (Layout.meshBlock [2, 2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2, 2] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2, 2] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 512]⟩ : Shape).Idx, (Layout.blockN ⟨2, ![256, 512]⟩ ⟨2, ![512, 512]⟩ (Layout.meshBlock [2, 2, 2] ![[1], []] c) ((Cert.On_untied.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![256, 512]⟩ : Shape).Idx → _) i = 1#1 → r.2.mem ((c.tc : Thread Cert.KernelIdeal.nD Cert.KernelIdeal.τ).loc Cert.KernelIdeal.main_v1) i = (Layout.blockN ⟨2, ![256, 512]⟩ ⟨2, ![512, 512]⟩ (Layout.meshBlock [2, 2, 2] ![[1], []] c) v0 : (⟨2, ![256, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![512, 512]⟩ : Shape).Idx, (Cert.On_untied.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v74) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_untied (hKernelIdeal := hKernelIdeal) (hReferenceIdeal := hReferenceIdeal) (hOn_untied := hOn_untied)
-- ==== On_untied.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S512x3 : Shape := ⟨2, ![512, 3]⟩
abbrev S512x1 : Shape := ⟨2, ![512, 1]⟩
abbrev S_ : Shape := ⟨0, ![]⟩

class Facts : Prop where
  sliceFits_S512x4_S512x3 : S512x4.Slices (fun _ => 0) S512x3
  slices_S512x3_S512x1_0_0 : S512x3.Slices ![0, 0] S512x1
  bcast_S_S512x1 : S_.BroadcastsInDim S512x1 (![] : Fin 0 → Fin S512x1.rank)
  slices_S512x3_S512x1_0_1 : S512x3.Slices ![0, 1] S512x1
  slices_S512x3_S512x1_0_2 : S512x3.Slices ![0, 2] S512x1
  bcast_S512x1_S512x512_0_1 : S512x1.BroadcastsInDim S512x512 (![0, 1] : Fin 2 → Fin S512x512.rank)
  dot_S512x512_S512x4_S512x4_1_0_0_1_n_n_wf : DotDims.WF S512x512 S512x4 S512x4 [1] [0] [0] [1] [] []

variable [Facts]

def dot_S512x512_S512x4_S512x4_1_0_0_1_n_n : DotDims S512x512 S512x4 S512x4 where
  lhsContracting := [1]
  rhsContracting := [0]
  lhsNonContracting := [0]
  rhsNonContracting := [1]
  lhsBatch := []
  rhsBatch := []
  wf := dot_S512x512_S512x4_S512x4_1_0_0_1_n_n_wf
def fn {F : FTy → Type} [FloatOps F] (main_arg0 : FVec F S512x512 .f32) (main_arg1 : FVec F S512x4 .f32) (main_arg2 : FVec F S4x512x1024 .f32) (main_arg3 : FVec F S4x1024x512 .f32) : IVec S512x512 1 :=
  let main_v0 : FVec F S512x4 .f32 := (fun l r => Host.dotGeneral dot_S512x512_S512x4_S512x4_1_0_0_1_n_n none l r) main_arg0 main_arg1
  let main_values : FVec F S512x3 .f32 := (fun x => (Host.topK S512x3 1 (FloatOps.cmpfTotal .gt) x sliceFits_S512x4_S512x3).1) main_v0
  let main_indices : IVec S512x3 32 := (fun x => (Host.topK S512x3 1 (FloatOps.cmpfTotal .gt) x sliceFits_S512x4_S512x3).2) main_v0
  let main_v1 : FVec F S512x1 .f32 := (extractStridedSlice S512x1 ![0, 0] · slices_S512x3_S512x1_0_0) main_values
  let main_cst : FVec F S_ .f32 := constant S_ .f32 0x7F800000#32
  let main_v2 : FVec F S512x1 .f32 := broadcastInDim S512x1 ![] bcast_S_S512x1 main_cst
  let main_v3 : IVec S512x1 1 := cmpf .olt main_v1 main_v2
  let main_v4 : FVec F S512x1 .f32 := (extractStridedSlice S512x1 ![0, 0] · slices_S512x3_S512x1_0_0) main_values
  let main_v5 : FVec F S512x1 .f32 := (extractStridedSlice S512x1 ![0, 1] · slices_S512x3_S512x1_0_1) main_values
  let main_v6 : IVec S512x1 1 := cmpf .ogt main_v4 main_v5
  let main_v7 : IVec S512x1 1 := andi main_v3 main_v6
  let main_v8 : FVec F S512x1 .f32 := (extractStridedSlice S512x1 ![0, 1] · slices_S512x3_S512x1_0_1) main_values
  let main_v9 : FVec F S512x1 .f32 := (extractStridedSlice S512x1 ![0, 2] · slices_S512x3_S512x1_0_2) main_values
  let main_v10 : IVec S512x1 1 := cmpf .ogt main_v8 main_v9
  let main_v11 : IVec S512x1 1 := andi main_v7 main_v10
  let main_v12 : IVec S512x512 1 := broadcastInDim S512x512 ![0, 1] bcast_S512x1_S512x512_0_1 main_v11
  main_v12
-- ==== Kernel.lean ====
abbrev S256x512 : Shape := ⟨2, ![256, 512]⟩
abbrev S512x2 : Shape := ⟨2, ![512, 2]⟩
abbrev S2x512x1024 : Shape := ⟨3, ![2, 512, 1024]⟩
abbrev S2x1024x512 : Shape := ⟨3, ![2, 1024, 512]⟩
abbrev S128x512 : Shape := ⟨2, ![128, 512]⟩
abbrev S5 : Shape := ⟨1, ![5]⟩
abbrev S_ : Shape := ⟨0, ![]⟩
abbrev S1 : Shape := ⟨1, ![1]⟩
abbrev S128x2 : Shape := ⟨2, ![128, 2]⟩
abbrev S128x4 : Shape := ⟨2, ![128, 4]⟩
abbrev S128 : Shape := ⟨1, ![128]⟩
abbrev S128x1 : Shape := ⟨2, ![128, 1]⟩
abbrev S1x512x1024 : Shape := ⟨3, ![1, 512, 1024]⟩
abbrev S512x1024 : Shape := ⟨2, ![512, 1024]⟩
abbrev S128x1024 : Shape := ⟨2, ![128, 1024]⟩
abbrev S1x1024x512 : Shape := ⟨3, ![1, 1024, 512]⟩
abbrev S1024x512 : Shape := ⟨2, ![1024, 512]⟩

abbrev nBuf : Space → Nat
  | .hbm => 5
  | .vmem => 12
  | .smem => 0
  | _ => 0

abbrev bufTy : (tb : Table) → Fin (tcTables nBuf tb) → BufTy
  | .hbm, ⟨0, _⟩ => ⟨S256x512, .f32⟩
  | .hbm, ⟨1, _⟩ => ⟨S512x2, .f32⟩
  | .hbm, ⟨2, _⟩ => ⟨S2x512x1024, .f32⟩
  | .hbm, ⟨3, _⟩ => ⟨S2x1024x512, .f32⟩
  | .hbm, ⟨4, _⟩ => ⟨S256x512, .f32⟩
  | .local _ .vmem, ⟨0, _⟩ => ⟨S256x512, .f32⟩
  | .local _ .vmem, ⟨1, _⟩ => ⟨S512x2, .f32⟩
  | .local _ .vmem, ⟨2, _⟩ => ⟨S2x512x1024, .f32⟩
  | .local _ .vmem, ⟨3, _⟩ => ⟨S2x1024x512, .f32⟩
  | .local _ .vmem, ⟨4, _⟩ => ⟨S256x512, .f32⟩
  | .local _ .vmem, ⟨5, _⟩ => ⟨S512x2, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v12 : BitVec 32 := Scalar.muli v2 c4_i32_6
  let v13 : BitVec 32 := Scalar.addi c0_i32 v12
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_7 : BitVec 32 := 2#32
  let v14 : BitVec 32 := Scalar.muli v9 c2_i32_7
  let v15 : BitVec 32 := Scalar.addi v13 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_8 : BitVec 32 := 1#32
  let v16 : BitVec 32 := Scalar.muli v8 c1_i32_8
  let v17 : BitVec 32 := Scalar.addi v15 v16
  v17.toNat
def k0_dev2 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v18 : BitVec 32 := Scalar.muli v2 c4_i32_10
  let v19 : BitVec 32 := Scalar.addi c0_i32_11 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v20 : BitVec 32 := Scalar.muli v5 c2_i32_12
  let v21 : BitVec 32 := Scalar.addi v19 v20
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_13 : BitVec 32 := 1#32
  let v22 : BitVec 32 := Scalar.muli v10 c1_i32_13
  let v23 : BitVec 32 := Scalar.addi v21 v22
  v23.toNat
def k0_dev3 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v25 : BitVec 32 := Scalar.muli v2 c4_i32_17
  let v26 : BitVec 32 := Scalar.addi c0_i32_18 v25
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_19 : BitVec 32 := 2#32
  let v27 : BitVec 32 := Scalar.muli v9 c2_i32_19
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v29 : BitVec 32 := Scalar.muli v8 c1_i32_20
  let v30 : BitVec 32 := Scalar.addi v28 v29
  v30.toNat
def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v24 : BitVec 32 := Scalar.muli v8 c128_i32
  let c0_i32_27 : BitVec 32 := 0#32
  ![v24.toNat, 0]
def k0_dev4 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v35 : BitVec 32 := Scalar.muli v2 c4_i32_23
  let v36 : BitVec 32 := Scalar.addi c0_i32_24 v35
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_25 : BitVec 32 := 2#32
  let v37 : BitVec 32 := Scalar.muli v9 c2_i32_25
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v39 : BitVec 32 := Scalar.muli v8 c1_i32_26
  let v40 : BitVec 32 := Scalar.addi v38 v39
  v40.toNat
def k0_dev5 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v117 : BitVec 32 := Scalar.muli v2 c4_i32_74
  let v118 : BitVec 32 := Scalar.addi c0_i32_75 v117
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_76 : BitVec 32 := 2#32
  let v119 : BitVec 32 := Scalar.muli v9 c2_i32_76
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v121 : BitVec 32 := Scalar.muli v8 c1_i32_77
  let v122 : BitVec 32 := Scalar.addi v120 v121
  v122.toNat
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_78 : BitVec 32 := 128#32
  let v127 : BitVec 32 := Scalar.muli v8 c128_i32_78
  let v128 : Index := Scalar.indexCast v127
  let c0_79 : Index := 0#32
  ![v128.toNat, 0]
def k0_dev6 (d0 : Dev nD) : Nat :=
  let c0_i32_110 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_109 : BitVec 32 := 4#32
  let v181 : BitVec 32 := Scalar.muli v2 c4_i32_109
  let v182 : BitVec 32 := Scalar.addi c0_i32_110 v181
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_111 : BitVec 32 := 2#32
  let v183 : BitVec 32 := Scalar.muli v5 c2_i32_111
  let v184 : BitVec 32 := Scalar.addi v182 v183
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_112 : BitVec 32 := 1#32
  let v185 : BitVec 32 := Scalar.muli v10 c1_i32_112
  let v186 : BitVec 32 := Scalar.addi v184 v185
  v186.toNat
def k0_dev7 (d0 : Dev nD) : Nat :=
  let c0_i32_122 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_121 : BitVec 32 := 4#32
  let v199 : BitVec 32 := Scalar.muli v2 c4_i32_121
  let v200 : BitVec 32 := Scalar.addi c0_i32_122 v199
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_123 : BitVec 32 := 2#32
  let v201 : BitVec 32 := Scalar.muli v5 c2_i32_123
  let v202 : BitVec 32 := Scalar.addi v200 v201
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_124 : BitVec 32 := 1#32
  let v203 : BitVec 32 := Scalar.muli v10 c1_i32_124
  let v204 : BitVec 32 := Scalar.addi v202 v203
  v204.toNat
def k0_off3 (d0 : Dev nD) : Fin 2 → Nat :=
  let c1_i32_147 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v234 : BitVec 32 := Scalar.subi c1_i32_147 v8
  let c128_i32_148 : BitVec 32 := 128#32
  let v235 : BitVec 32 := Scalar.muli v234 c128_i32_148
  let v236 : Index := Scalar.indexCast v235
  let c0_149 : Index := 0#32
  ![v236.toNat, 0]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S512x2 : Shape := ⟨2, ![512, 2]⟩
abbrev S_ : Shape := ⟨0, ![]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 108
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x4, .f32⟩
  | .hbm, ⟨2, _⟩ => ⟨S4x512x1024, .f32⟩
  | .hbm, ⟨3, _⟩ => ⟨S4x1024x512, .f32⟩
  | .hbm, ⟨4, _⟩ => ⟨S512x4, .f32⟩
  | .hbm, ⟨5, _⟩ => ⟨S512x2, .f32⟩
  | .hbm, ⟨6, _⟩ => ⟨S512x2, .i32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x2, .f32⟩
  | .hbm, ⟨11, _⟩ => ⟨S512x2, .f32⟩
  | .hbm, ⟨12, _⟩ => ⟨S512x2, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S512x2, .f32⟩
  | .hbm, ⟨17, _⟩ => ⟨S512x2, .f32⟩
  | .hbm, ⟨18, _⟩ => ⟨S_, .f32⟩
  | .hbm, ⟨19, _⟩ => ⟨S512x512, .f32⟩
  | .hbm, ⟨20, _⟩ => ⟨S_, .i32⟩
  | .hbm, ⟨21, _⟩ => ⟨S512x2, .i32⟩
  | .hbm, ⟨22, _⟩ => ⟨S512x2, .i1⟩
  | .hbm, ⟨23, _⟩ => ⟨S_, .f32⟩
  | .hbm, ⟨24, _⟩ => ⟨S_, .f32⟩
  | .hbm, ⟨25, _⟩ => ⟨S512x2, .f32⟩
  | .hbm, ⟨26, _⟩ => ⟨S512x2, .f32⟩
  | .hbm, ⟨27, _⟩ => ⟨S_, .f32⟩
  | .hbm, ⟨28, _⟩ => ⟨S512, .f32⟩
  | .hbm, ⟨29, _⟩ => ⟨S512x1, .f32⟩
  | .hbm, ⟨30, _⟩ => ⟨S1x512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S1x1024x512, .f32⟩
  | .hbm, ⟨37, _⟩ => ⟨S1024x512, .f32⟩
  | .hbm, ⟨38, _⟩ => ⟨S512x512, .f32⟩
  | .hbm, ⟨39, _⟩ => ⟨S512x512, .f32⟩
  | .hbm, ⟨40, _⟩ => ⟨S512x512, .f32⟩
  | .hbm, ⟨41, _⟩ => ⟨S512x512, .f32⟩
  | .hbm, ⟨42, _⟩ => ⟨S_, .i32⟩
  | .hbm, ⟨43, _⟩ => ⟨S512x2, .i32⟩
  | .hbm, ⟨44, _⟩ => ⟨S512x2, .i1⟩
  | .hbm, ⟨45, _⟩ => ⟨S_, .f32⟩
  | .hbm, ⟨46, _⟩ => ⟨S_, .f32⟩
  | .hbm, ⟨47, _⟩ => ⟨S512x2, .f32⟩
  | .hbm, ⟨48, _⟩ => ⟨S512x2, .f32⟩
  | .hbm, ⟨49, _⟩ => ⟨S_, .f32⟩
  | .hbm, ⟨50, _⟩ => ⟨S512, .f32⟩
  | .hbm, ⟨51, _⟩ => ⟨S512x1, .f32⟩
  | .hbm, ⟨52, _⟩ => ⟨S1x512x1024, .f32⟩
  | .hbm, ⟨53, _⟩ => ⟨S512x1024, .f32⟩
  | .hbm, ⟨54, _⟩ => ⟨S512x1024, .f32⟩
  | .hbm, ⟨55, _⟩ => ⟨S_, .f32⟩
  | .hbm, ⟨56, _⟩ => ⟨S512x1024, .f32⟩
  | .hbm, ⟨57, _⟩ => ⟨S512x1024, .f32⟩
  | .hbm, ⟨58, _⟩ => ⟨S1x1024x512, .f32⟩
  | .hbm, ⟨59, _⟩ => ⟨S1024x512, .f32⟩
  | .hbm, ⟨60, _⟩ => ⟨S512x512, .f32⟩
  | .hbm, ⟨61, _⟩ => ⟨S512x512, .f32⟩
  | .hbm, ⟨62, _⟩ => ⟨S512x512, .f32⟩
  | .hbm, ⟨63, _⟩ => ⟨S512x512, .f32⟩
  | .hbm, ⟨64, _⟩ => ⟨S_, .i32⟩
  | .hbm, ⟨65, _⟩ => ⟨S512x2, .i32⟩
  | .hbm, ⟨66, _⟩ => ⟨S512x2, .i1⟩
  | .hbm, ⟨67, _⟩ => ⟨S_, .f32⟩
  | .hbm, ⟨68, _⟩ => ⟨S_, .f32⟩
  | .hbm, ⟨69, _⟩ => ⟨S512x2, .f32⟩
  | .hbm, ⟨70, _⟩ => ⟨S512x2, .f32⟩
  | .hbm, ⟨71, _⟩ => ⟨S_, .f32⟩
  | .hbm, ⟨72, _⟩ => ⟨S512, .f32⟩
  | .hbm, ⟨73, _⟩ => ⟨S512x1, .f32⟩
  | .hbm, ⟨74, _⟩ => ⟨S1x512x1024, .f32⟩
  | .hbm, ⟨75, _⟩ => ⟨S512x1024, .f32⟩
  | .hbm, ⟨76, _⟩ => ⟨S512x1024, .f32⟩
  | .hbm, ⟨77, _⟩ => ⟨S_, .f32⟩
  | .hbm, ⟨78, _⟩ => ⟨S512x1024, .f32⟩
  | .hbm, ⟨79, _⟩ => ⟨S512x1024, .f32⟩
  | .hbm, ⟨80, _⟩ => ⟨S1x1024x512, .f32⟩
  | .hbm, ⟨81, _⟩ => ⟨S1024x512, .f32⟩
  | .hbm, ⟨82, _⟩ => ⟨S512x512, .f32⟩
  | .hbm, ⟨83, _⟩ => ⟨S512x512, .f32⟩
  | .hbm, ⟨84, _⟩ => ⟨S512x512, .f32⟩
  | .hbm, ⟨85, _⟩ => ⟨S512x512, .f32⟩
  | .hbm, ⟨86, _⟩ => ⟨S_, .i32⟩
  | .hbm, ⟨87, _⟩ => ⟨S512x2, .i32⟩
  | .hbm, ⟨88, _⟩ => ⟨S512x2, .i1⟩
  | .hbm, ⟨89, _⟩ => ⟨S_, .f32⟩
  | .hbm, ⟨90, _⟩ => ⟨S_, .f32⟩
  | .hbm, ⟨91, _⟩ => ⟨S512x2, .f32⟩
  | .hbm, ⟨92, _⟩ => ⟨S512x2, .f32⟩
  | .hbm, ⟨93, _⟩ => ⟨S_, .f32⟩
  | .hbm, ⟨94, _⟩ => ⟨S512, .f32⟩
  | .hbm, ⟨95, _⟩ => ⟨S512x1, .f32⟩
  | .hbm, ⟨96, _⟩ => ⟨S1x512x1024, .f32⟩
  | .hbm, ⟨97, _⟩ => ⟨S512x1024, .f32⟩
  | .hbm, ⟨98, _⟩ => ⟨S512x1024, .f32⟩
  | .hbm, ⟨99, _⟩ => ⟨S_, .f32⟩
  | .hbm, ⟨100, _⟩ => ⟨S512x1024, .f32⟩
  | .hbm, ⟨101, _⟩ => ⟨S512x1024, .f32⟩
  | .hbm, ⟨102, _⟩ => ⟨S1x1024x512, .f32⟩
  | .hbm, ⟨103, _⟩ => ⟨S1024x512, .f32⟩
  | .hbm, ⟨104, _⟩ => ⟨S512x512, .f32⟩
  | .hbm, ⟨105, _⟩ => ⟨S512x512, .f32⟩
  | .hbm, ⟨106, _⟩ => ⟨S512x512, .f32⟩
  | .hbm, ⟨107, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_call1_v0 : Ref sig .tc := ⟨.hbm, 46, rfl⟩
abbrev main_call1_v1 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_call2_v0 : Ref sig .tc := ⟨.hbm, 68, rfl⟩
abbrev main_call2_v1 : Ref sig .tc := ⟨.hbm, 69, rfl⟩
abbrev main_v45 : Ref sig .tc := ⟨.hbm, 70, rfl⟩
abbrev main_cst_11 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_call3_v0 : Ref sig .tc := ⟨.hbm, 90, rfl⟩
abbrev main_call3_v1 : Ref sig .tc := ⟨.hbm, 91, rfl⟩
abbrev main_v61 : Ref sig .tc := ⟨.hbm, 92, rfl⟩
abbrev main_cst_15 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_16 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩

abbrev nD : Nat := 1
abbrev τ : Topo := Topo.v7x

variable {F : FTy → Type} [FloatOps F]
-- ==== Proof.Protocol.lean ====
/-
The protocol of the expert-parallel kernel on the 2 × 2 × 2 mesh: who waits on what, who pays it, and with which contents.

Device `c` sits at (x, y, z). It talks to two others: `yp c`, the device that differs in y and holds the other two
experts, and `zn c`, the device that differs in z and works on the other half of the same 256 rows. Eleven semaphores
matter on each device; `Fin 11` names them:

  0        the barrier: one unit from `yp c`, one from `zn c`, waited for together at the start
  1 .. 5   the send side of transfers 0 .. 4
  6 .. 10  the receive side of transfers 0 .. 4

  transfer  from                  into (at the peer)   peer  what lands at `c`
  0         router block          r_other              yp    the router block of `yp c`
  1         this half of x        tok_in               yp    the half of `yp c`'s rows that `c` works on
  2         c_out                 c_in                 yp    `yp c`'s experts applied to `c`'s half
  3         o_mine                o_swap               zn    `zn c`'s experts applied to its half
  4         c_in                  c_swap               zn    `yp (zn c)`'s experts applied to `zn c`'s half

The unit that `yp c` pays on the barrier hands over its buffers r_other, tok_in and c_in; the unit of `zn c` its o_swap and
c_swap: after the barrier a device owns the places it copies into. Router block, x, o_mine and c_in are read while their
transfers run, so only half the share of each goes out with the transfer, and comes back when its send side is waited for.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the staging pipeline's rounds, and the kernel's own with duties named by `Bool` -/

abbrev UMoe : Type := URounds (GSem nD τ sig) Bool
abbrev UAll : Type := UR sig nD τ × UMoe

local notation "𝕄" => MT nD τ sig Unit (Elt F) ℕ UAll ℕ

abbrev EStage : Emb (UR sig nD τ) (MT nD τ sig Unit (Elt F) ℕ UAll ℕ) := embL
abbrev EMoe : Emb UMoe (MT nD τ sig Unit (Elt F) ℕ UAll ℕ) := embR

variable (m : (ℓ : Loc nD τ sig) → Buf (Elt F) ℓ) (ρ : Dev nD → PrngReg)

/-- The state at launch: any contents, every counter at zero. -/
def start₀ : MemSt nD τ sig (Elt F) := ⟨m, fun _ => 0, ρ⟩

/-! ## Neighbours -/

set_option backward.proofsInPublic true in
/-- The device across y. -/
def yp (c : Dev nD) : Dev nD := ⟨(4 * (c.val / 4) + (c.val % 2) + 2) - 2 * ((c.val / 2) % 2), by revert c; decide⟩
set_option backward.proofsInPublic true in
/-- The device across z. -/
def zn (c : Dev nD) : Dev nD := ⟨(4 * (c.val / 4) + 2 * ((c.val / 2) % 2) + 1) - (c.val % 2), by revert c; decide⟩

theorem yp_yp (c : Dev nD) : yp (yp c) = c := by revert c; decide
theorem zn_zn (c : Dev nD) : zn (zn c) = c := by revert c; decide

/-- The device that transfer `k` connects `c` with, in both directions. -/
abbrev peer : Fin 5 → Dev nD → Dev nD := fun | 0 => yp | 1 => yp | 2 => yp | 3 => zn | 4 => zn
theorem peer_peer (k : Fin 5) (c : Dev nD) : peer k (peer k c) = c := by
  fin_cases k <;> first | exact yp_yp c | exact zn_zn c
def peerEquiv (k : Fin 5) : Dev nD ≃ Dev nD := ⟨peer k, peer k, peer_peer k, peer_peer k⟩
theorem peer_eq_iff (k : Fin 5) {c d : Dev nD} : peer k d = c ↔ d = peer k c :=
  ⟨fun h => by rw [← h, peer_peer], fun h => by rw [h, peer_peer]⟩

theorem dev1_eq (c : Dev nD) : (⟨k0_dev1 c, k0_dev1_lt c⟩ : Dev nD) = yp c := Fin.ext (k0_dev1_eq c)
theorem dev2_eq (c : Dev nD) : (⟨k0_dev2 c, k0_dev2_lt c⟩ : Dev nD) = zn c := Fin.ext (k0_dev2_eq c)
theorem dev3_eq (c : Dev nD) : (⟨k0_dev3 c, k0_dev3_lt c⟩ : Dev nD) = peer 0 c := Fin.ext (k0_dev3_eq c)
theorem dev4_eq (c : Dev nD) : (⟨k0_dev4 c, k0_dev4_lt c⟩ : Dev nD) = peer 1 c := Fin.ext (k0_dev4_eq c)
theorem dev5_eq (c : Dev nD) : (⟨k0_dev5 c, k0_dev5_lt c⟩ : Dev nD) = peer 2 c := Fin.ext (k0_dev5_eq c)
theorem dev6_eq (c : Dev nD) : (⟨k0_dev6 c, k0_dev6_lt c⟩ : Dev nD) = peer 3 c := Fin.ext (k0_dev6_eq c)
theorem dev7_eq (c : Dev nD) : (⟨k0_dev7 c, k0_dev7_lt c⟩ : Dev nD) = peer 4 c := Fin.ext (k0_dev7_eq c)

/-! ## Buffers and semaphores -/

abbrev xM : Memref sig .tc .vmem S256x512 .f32 := Memref.whole cc0_stg0_0
abbrev rM : Memref sig .tc .vmem S512x2 .f32 := Memref.whole cc0_stg1_0
abbrev w1M : Memref sig .tc .vmem S2x512x1024 .f32 := Memref.whole cc0_stg2_0
abbrev w2M : Memref sig .tc .vmem S2x1024x512 .f32 := Memref.whole cc0_stg3_0
abbrev oM : Memref sig .tc .vmem S256x512 .f32 := Memref.whole cc0_stg4_0
abbrev rOtherM : Memref sig .tc .vmem S512x2 .f32 := Memref.whole cc0_scratch0
abbrev tokM : Memref sig .tc .vmem S128x512 .f32 := Memref.whole cc0_scratch1
abbrev cOutM : Memref sig .tc .vmem S128x512 .f32 := Memref.whole cc0_scratch2
abbrev cInM : Memref sig .tc .vmem S128x512 .f32 := Memref.whole cc0_scratch3
abbrev cSwapM : Memref sig .tc .vmem S128x512 .f32 := Memref.whole cc0_scratch4
abbrev oMineM : Memref sig .tc .vmem S128x512 .f32 := Memref.whole cc0_scratch5
abbrev oSwapM : Memref sig .tc .vmem S128x512 .f32 := Memref.whole cc0_scratch6

/-- The half of x that device `c` works on, as transfer 1 reads it. -/
abbrev xHalfM (c : Dev nD) : Memref sig .tc .vmem S128x512 .f32 :=
  xM.slice (Rect.unit (s := S256x512) (k0_off1 c) S128x512.size (k0_off1_inb c)) (fun _ => rfl)

abbrev barS : Sem sig := (SemArray.scalar (sig.barrier 0 rfl) : Sems sig S_).sem
abbrev sendS : Fin 5 → DmaSem sig := fun
  | 0 => ((cc0_scratch7.slice (Rect.unit (s := S5) ![0] S1.size inb_S5_S1_0)).squeeze S_ squeezes_S1_S_).sem
  | 1 => ((cc0_scratch7.slice (Rect.unit (s := S5) ![1] S1.size inb_S5_S1_1)).squeeze S_ squeezes_S1_S_).sem
  | 2 => ((cc0_scratch7.slice (Rect.unit (s := S5) ![2] S1.size inb_S5_S1_2)).squeeze S_ squeezes_S1_S_).sem
  | 3 => ((cc0_scratch7.slice (Rect.unit (s := S5) ![3] S1.size inb_S5_S1_3)).squeeze S_ squeezes_S1_S_).sem
  | 4 => ((cc0_scratch7.slice (Rect.unit (s := S5) ![4] S1.size inb_S5_S1_4)).squeeze S_ squeezes_S1_S_).sem
abbrev recvS : Fin 5 → DmaSem sig := fun
  | 0 => ((cc0_scratch8.slice (Rect.unit (s := S5) ![0] S1.size inb_S5_S1_0)).squeeze S_ squeezes_S1_S_).sem
  | 1 => ((cc0_scratch8.slice (Rect.unit (s := S5) ![1] S1.size inb_S5_S1_1)).squeeze S_ squeezes_S1_S_).sem
  | 2 => ((cc0_scratch8.slice (Rect.unit (s := S5) ![2] S1.size inb_S5_S1_2)).squeeze S_ squeezes_S1_S_).sem
  | 3 => ((cc0_scratch8.slice (Rect.unit (s := S5) ![3] S1.size inb_S5_S1_3)).squeeze S_ squeezes_S1_S_).sem
  | 4 => ((cc0_scratch8.slice (Rect.unit (s := S5) ![4] S1.size inb_S5_S1_4)).squeeze S_ squeezes_S1_S_).sem

/-- The kernel's own ten semaphores, which its launch opens and closes; -/
abbrev ownS : Fin 10 → SemLoc sig := fun
  | 0 => .dma (sendS 0) | 1 => .dma (sendS 1) | 2 => .dma (sendS 2) | 3 => .dma (sendS 3) | 4 => .dma (sendS 4)
  | 5 => .dma (recvS 0) | 6 => .dma (recvS 1) | 7 => .dma (recvS 2) | 8 => .dma (recvS 3) | 9 => .dma (recvS 4)
/-- and all eleven of the protocol. -/
abbrev semAt : Fin 11 → SemLoc sig := fun
  | 0 => .reg barS
  | 1 => .dma (sendS 0) | 2 => .dma (sendS 1) | 3 => .dma (sendS 2) | 4 => .dma (sendS 3) | 5 => .dma (sendS 4)
  | 6 => .dma (recvS 0) | 7 => .dma (recvS 1) | 8 => .dma (recvS 2) | 9 => .dma (recvS 3) | 10 => .dma (recvS 4)
abbrev cell (c : Dev nD) (j : Fin 11) : GSem nD τ sig := ((c : Thread nD τ), semAt j)

/-- The names of transfer `k`'s two sides. -/
abbrev sendJ (k : Fin 5) : Fin 11 := ⟨k.val + 1, by omega⟩
abbrev recvJ (k : Fin 5) : Fin 11 := ⟨k.val + 6, by omega⟩

/-- Which of the eleven a semaphore is. -/
def nameOf (s : SemLoc sig) : Option (Fin 11) := (List.finRange 11).find? fun j => semAt j = s
theorem nameOf_semAt : ∀ j : Fin 11, nameOf (semAt j) = some j := by decide
theorem semAt_injective : Function.Injective semAt := fun i j h =>
  Option.some.inj ((nameOf_semAt i).symm.trans ((congrArg nameOf h).trans (nameOf_semAt j)))
theorem cell_inj {c d : Dev nD} {i j : Fin 11} : cell c i = cell d j ↔ c = d ∧ i = j :=
  ⟨fun h => ⟨Fin.ext (congrArg (fun g : GSem nD τ sig => g.1.1.val) h), semAt_injective (congrArg Prod.snd h)⟩,
    fun h => by rw [h.1, h.2]⟩

/-- The units of one router block, and of one half block of rows. -/
abbrev nR : ℕ := rOtherM.view.dmaCredit
abbrev nT : ℕ := tokM.view.dmaCredit

/-- What one duty pays on semaphore `j`. -/
def units (j : Fin 11) : ℕ := if j = 0 then 1 else if j = 1 ∨ j = 6 then nR else nT
theorem units_pos (j : Fin 11) : 0 < units j := by
  unfold units
  split
  · exact Nat.one_pos
  · split
    · exact View.dmaCredit_pos _ (by decide)
    · exact View.dmaCredit_pos _ (by decide)
theorem units_router (j : Fin 11) (h : j = 1 ∨ j = 6) : units j = nR := by
  unfold units; rw [if_neg (by rcases h with rfl | rfl <;> decide), if_pos h]
theorem units_rows (j : Fin 11) (h : ¬ j = 0) (h' : ¬(j = 1 ∨ j = 6)) : units j = nT := by
  unfold units; rw [if_neg h, if_neg h']

/-! ## Contents -/

/-- The four argument blocks of device `c` as its kernel sees them. -/
def xIn (c : Dev nD) : (cc0_stg0_0 : Ref sig .tc).ty.Contents (Elt F) :=
  (win0_0.blk (0 : Fin 1)).view.read (Elt F) ((start₀ m ρ).mem ((c : Thread nD τ).loc main_arg0))
def rIn (c : Dev nD) : (cc0_stg1_0 : Ref sig .tc).ty.Contents (Elt F) :=
  (win0_1.blk (0 : Fin 1)).view.read (Elt F) ((start₀ m ρ).mem ((c : Thread nD τ).loc main_arg1))
def w1In (c : Dev nD) : (cc0_stg2_0 : Ref sig .tc).ty.Contents (Elt F) :=
  (win0_2.blk (0 : Fin 1)).view.read (Elt F) ((start₀ m ρ).mem ((c : Thread nD τ).loc main_arg2))
def w2In (c : Dev nD) : (cc0_stg3_0 : Ref sig .tc).ty.Contents (Elt F) :=
  (win0_3.blk (0 : Fin 1)).view.read (Elt F) ((start₀ m ρ).mem ((c : Thread nD τ).loc main_arg3))

abbrev w1Rect0 : Rect S2x512x1024 := Rect.unit (s := S2x512x1024) ![0, 0, 0] S1x512x1024.size inb_S2x512x1024_S1x512x1024_0_0_0
abbrev w1Rect1 : Rect S2x512x1024 := Rect.unit (s := S2x512x1024) ![1, 0, 0] S1x512x1024.size inb_S2x512x1024_S1x512x1024_1_0_0
abbrev w2Rect0 : Rect S2x1024x512 := Rect.unit (s := S2x1024x512) ![0, 0, 0] S1x1024x512.size inb_S2x1024x512_S1x1024x512_0_0_0
abbrev w2Rect1 : Rect S2x1024x512 := Rect.unit (s := S2x1024x512) ![1, 0, 0] S1x1024x512.size inb_S2x1024x512_S1x1024x512_1_0_0
abbrev xRect (c : Dev nD) : Rect S256x512 := Rect.unit (s := S256x512) (k0_off2 c) S128x512.size (k0_off2_inb c)
abbrev xRect' (c : Dev nD) : Rect S256x512 := Rect.unit (s := S256x512) (k0_off3 c) S128x512.size (k0_off3_inb c)

/-- The two experts' weights as the body loads them. -/
abbrev w1At0 (c : Dev nD) : Vec F S1x512x1024 .f32 := w1M.view.readAt (Elt F) w1Rect0.toLoadRect (w1In m ρ c)
abbrev w1At1 (c : Dev nD) : Vec F S1x512x1024 .f32 := w1M.view.readAt (Elt F) w1Rect1.toLoadRect (w1In m ρ c)
abbrev w2At0 (c : Dev nD) : Vec F S1x1024x512 .f32 := w2M.view.readAt (Elt F) w2Rect0.toLoadRect (w2In m ρ c)
abbrev w2At1 (c : Dev nD) : Vec F S1x1024x512 .f32 := w2M.view.readAt (Elt F) w2Rect1.toLoadRect (w2In m ρ c)

/-- Two experts on a half block of rows, in the body's first and in its second wording. -/
abbrev experts (r ro : Vec F S512x2 .f32) (t : Vec F S128x512 .f32) (a b : Vec F S1x512x1024 .f32) (a' b' : Vec F S1x1024x512 .f32) :
    FVec F S128x512 .f32 :=
  k0_pay4 t (k0_pay2 r ro t) (k0_pay3 r ro t a a') b b'
abbrev experts' (r ro : Vec F S512x2 .f32) (t : Vec F S128x512 .f32) (a b : Vec F S1x512x1024 .f32) (a' b' : Vec F S1x1024x512 .f32) :
    FVec F S128x512 .f32 :=
  k0_pay13
    (k0_pay10 (k0_pay5 t) (k0_pay6 (k0_pay1 r) ro t) (k0_pay7 (k0_pay1 r) ro t) (k0_pay8 (k0_pay1 r) ro t) a a')
    (k0_pay11 (k0_pay5 t) b b')
    (k0_pay12 (k0_pay6 (k0_pay1 r) ro t) (k0_pay7 (k0_pay1 r) ro t) (k0_pay8 (k0_pay1 r) ro t))

/-- The rows of device `c` that it works on itself, and those of `yp c` it works on. -/
abbrev mine (c : Dev nD) : Vec F S128x512 .f32 := xM.view.readAt (Elt F) (xRect c).toLoadRect (xIn m ρ c)
def tokIn (c : Dev nD) : (cc0_scratch1 : Ref sig .tc).ty.Contents (Elt F) := (xHalfM (yp c)).view.read (Elt F) (xIn m ρ (yp c))
/-- The two results, spelled out and then named. -/
abbrev cOutVal (c : Dev nD) : (cc0_scratch2 : Ref sig .tc).ty.Contents (Elt F) :=
  experts (rIn m ρ c) (rIn m ρ (yp c)) (tokIn m ρ c) (w1At0 m ρ c) (w1At1 m ρ c) (w2At0 m ρ c) (w2At1 m ρ c)
abbrev oMineVal (c : Dev nD) : (cc0_scratch5 : Ref sig .tc).ty.Contents (Elt F) :=
  experts' (rIn m ρ c) (rIn m ρ (yp c)) (mine m ρ c) (w1At0 m ρ c) (w1At1 m ρ c) (w2At0 m ρ c) (w2At1 m ρ c)
def cOut (c : Dev nD) : (cc0_scratch2 : Ref sig .tc).ty.Contents (Elt F) := cOutVal m ρ c
def oMine (c : Dev nD) : (cc0_scratch5 : Ref sig .tc).ty.Contents (Elt F) := oMineVal m ρ c
def cIn (c : Dev nD) : (cc0_scratch3 : Ref sig .tc).ty.Contents (Elt F) := cOut m ρ (yp c)
def oSwap (c : Dev nD) : (cc0_scratch6 : Ref sig .tc).ty.Contents (Elt F) := oMine m ρ (zn c)
def cSwap (c : Dev nD) : (cc0_scratch4 : Ref sig .tc).ty.Contents (Elt F) := cIn m ρ (zn c)

/-- The result block: this device's half, then the other half, written over contents that do not matter. -/
def outOver (c : Dev nD) (f : (cc0_stg4_0 : Ref sig .tc).ty.Contents (Elt F)) : (cc0_stg4_0 : Ref sig .tc).ty.Contents (Elt F) :=
  (oM.access (xRect' c) : View sig .tc _ _ _).write (Elt F)
    ((oM.access (xRect c) : View sig .tc _ _ _).write (Elt F) f (k0_pay14 (oMine m ρ c) (cIn m ρ c)) Finset.univ)
    (k0_pay15 (oSwap m ρ c) (cSwap m ρ c)) Finset.univ
def outAt (c : Dev nD) : (cc0_stg4_0 : Ref sig .tc).ty.Contents (Elt F) := outOver m ρ c (xIn m ρ c)

/-! ## What the transfers hand over -/

/-- A whole buffer of device `c`, at a share. -/
abbrev held (c : Dev nD) (b : Ref sig .tc) (q : PosShare TreeShare) (f : Buf (Elt F) ((c : Thread nD τ).loc b)) : sProp 𝕄 :=
  ((c : Thread nD τ).loc b) ↦{q} f
/-- The half of x that transfer 1 reads, at half the share. -/
abbrev xLent (c : Dev nD) (f : Buf (Elt F) ((xHalfM c).view.loc (c : Thread nD τ))) : sProp 𝕄 :=
  (xHalfM c).view.loc (c : Thread nD τ) ↦[(xHalfM c).view.set]{fullShare.right} f

/-- What the receive side of transfer `k` gives device `c`, -/
def landed (c : Dev nD) : Fin 5 → sProp 𝕄 := fun
  | 0 => held c cc0_scratch0 fullShare (rIn m ρ (yp c))
  | 1 => held c cc0_scratch1 fullShare (tokIn m ρ c)
  | 2 => held c cc0_scratch3 fullShare (cIn m ρ c)
  | 3 => held c cc0_scratch6 fullShare (oSwap m ρ c)
  | 4 => held c cc0_scratch4 fullShare (cSwap m ρ c)
/-- and what its send side gives back. -/
def returned (c : Dev nD) : Fin 5 → sProp 𝕄 := fun
  | 0 => held c cc0_stg1_0 fullShare.right (rIn m ρ c)
  | 1 => xLent c (xIn m ρ c)
  | 2 => held c cc0_scratch2 fullShare (cOut m ρ c)
  | 3 => held c cc0_scratch5 fullShare.right (oMine m ρ c)
  | 4 => held c cc0_scratch3 fullShare.right (cIn m ρ c)
/-- The places that device `d` offers across y and across z. -/
def offerY (d : Dev nD) : sProp 𝕄 :=
  iprop((∃ f, held d cc0_scratch0 fullShare f) ∗ (∃ f, held d cc0_scratch1 fullShare f) ∗ (∃ f, held d cc0_scratch3 fullShare f))
def offerZ (d : Dev nD) : sProp 𝕄 := iprop((∃ f, held d cc0_scratch6 fullShare f) ∗ (∃ f, held d cc0_scratch4 fullShare f))

/-- The payload of duty `b` on semaphore `j` of device `c`. -/
def pay (c : Dev nD) (j : Fin 11) (b : Bool) : sProp 𝕄 := match j with
  | 0 => if b then offerZ (zn c) else offerY (yp c)
  | 1 => returned m ρ c 0 | 2 => returned m ρ c 1 | 3 => returned m ρ c 2 | 4 => returned m ρ c 3 | 5 => returned m ρ c 4
  | 6 => landed m ρ c 0 | 7 => landed m ρ c 1 | 8 => landed m ρ c 2 | 9 => landed m ρ c 3 | 10 => landed m ρ c 4

instance pay_storable (c : Dev nD) (j : Fin 11) (b : Bool) : BI.Storable (upEmb : UEmb _ 𝕄) (pay m ρ c j b) := by
  unfold pay landed returned offerY offerZ held xLent
  fin_cases j <;> dsimp only <;> (repeat' split) <;> infer_instance

/-- The duties of a round 0: both names on the barrier, one elsewhere. -/
def dutiesOf (j : Fin 11) : Finset Bool := if j = 0 then Finset.univ else {false}

def rounds : Rounds.Schedule (GSem nD τ sig) Bool 𝕄 where
  duties g r := if r = 0 ∧ g.1.2 = .tc then ((nameOf g.2).elim ∅ dutiesOf) else ∅
  unitless _ := False
  amount g _ _ := (nameOf g.2).elim 1 units
  payload g _ b := (nameOf g.2).elim iprop(emp) fun j => pay m ρ g.1.1 j b
  amount_pos g _ _ _ := by
    cases nameOf g.2 with
    | none => exact Nat.one_pos
    | some j => exact units_pos j

instance rounds_storable (g : GSem nD τ sig) (r : ℕ) (b : Bool) :
    BI.Storable (upEmb : UEmb _ 𝕄) ((rounds (F := F) m ρ).payload g r b) := by
  show BI.Storable upEmb ((nameOf g.2).elim iprop(emp) fun j => pay m ρ g.1.1 j b)
  cases nameOf g.2 with
  | none => exact inferInstanceAs (BI.Storable upEmb iprop(emp))
  | some j => exact pay_storable m ρ g.1.1 j b

section Facts
variable (c : Dev nD) (j : Fin 11)

omit [FloatOps F] in
theorem elim_cell {α : Type _} (a : α) (f : Fin 11 → α) : (nameOf (cell c j).2).elim a f = f j := by
  rw [show (cell c j).2 = semAt j from rfl, nameOf_semAt]; rfl

theorem duties_cell : (rounds (F := F) m ρ).duties (cell c j) 0 = dutiesOf j := by
  show (if 0 = 0 ∧ (cell c j).1.2 = .tc then (nameOf (cell c j).2).elim ∅ dutiesOf else ∅) = _
  rw [if_pos ⟨rfl, rfl⟩, elim_cell]
theorem duties_after (g : GSem nD τ sig) : ∀ r, 1 ≤ r → (rounds (F := F) m ρ).duties g r = ∅ :=
  fun r hr => if_neg fun h => by omega
theorem amount_cell (b : Bool) : (rounds (F := F) m ρ).amount (cell c j) 0 b = units j := elim_cell c j _ _
theorem payload_cell (b : Bool) : (rounds (F := F) m ρ).payload (cell c j) 0 b = pay m ρ c j b := elim_cell c j _ _

theorem expect_cell : (rounds (F := F) m ρ).expect (cell c j) 0 = (dutiesOf j).card * units j := by
  unfold Schedule.expect Schedule.amountOf
  rw [duties_cell, Finset.sum_congr rfl fun b _ => amount_cell m ρ c j b, Finset.sum_const, smul_eq_mul]
theorem expect_bar : (rounds (F := F) m ρ).expect (cell c 0) 0 = 2 := expect_cell m ρ c 0
theorem expect_one (hj : j ≠ 0) : (rounds (F := F) m ρ).expect (cell c j) 0 = units j := by
  rw [expect_cell]; unfold dutiesOf; rw [if_neg hj, Finset.card_singleton, Nat.one_mul]

/-- A whole round's payloads: the two offers at the barrier, the one payload elsewhere. -/
theorem round_bar : bigSep ((rounds (F := F) m ρ).duties (cell c 0) 0 \ ∅) (fun b => (rounds (F := F) m ρ).payload (cell c 0) 0 b)
    = iprop(offerY (yp c) ∗ offerZ (zn c)) := by
  rw [Finset.sdiff_empty, duties_cell, show dutiesOf 0 = Finset.univ from rfl, bigSep_univ_eq_bigSepL [false, true] (by decide) (by decide),
    bigSepL_cons_cons, bigSepL_singleton, payload_cell, payload_cell]
  rfl
theorem round_one (hj : j ≠ 0) :
    bigSep ((rounds (F := F) m ρ).duties (cell c j) 0 \ ∅) (fun b => (rounds (F := F) m ρ).payload (cell c j) 0 b) = pay m ρ c j false := by
  rw [Finset.sdiff_empty, duties_cell, show dutiesOf j = {false} from if_neg hj, bigSep_singleton, payload_cell]

end Facts

/-! ## What is owed, and the levels that order the waits -/

/-- The units device `c` still has to pay on the listed cells; the head of the list is paid first. -/
def owing : List (Dev nD × Fin 11) → CellTallies nD τ sig Unit
  | [] => 0
  | p :: l => owing l + tallyAt (cell p.1 p.2) () (units p.2)

/-- Everything device `c` pays on others' semaphores, in program order. -/
def todo (c : Dev nD) : List (Dev nD × Fin 11) :=
  [(yp c, 0), (zn c, 0), (peer 0 c, 6), (peer 1 c, 7), (peer 2 c, 8), (peer 3 c, 9), (peer 4 c, 10)]

/-- The barrier comes before the first two receives, these before the third, and that before the last two. -/
def levelOf (j : Fin 11) : ℕ :=
  if j = 0 then 1 else if j = 6 ∨ j = 7 then 2 else if j = 8 then 3 else if j = 9 ∨ j = 10 then 4 else 0

def lvlSet (g : GSem nD τ sig) : Finset Unit := if g.1.2 = .tc then {()} else ∅
def lvl (g : GSem nD τ sig) (_ : Unit) : ℕ := (nameOf g.2).elim 0 levelOf

theorem lvlSet_of_ne (g : GSem nD τ sig) (h : g.1.2 ≠ .tc) : lvlSet g = ∅ := if_neg h
theorem lvlSet_tc (c : Dev nD) (s : SemLoc sig) : () ∈ lvlSet ((c : Thread nD τ), s) := by
  rw [show lvlSet ((c : Thread nD τ), s) = {()} from if_pos rfl]; exact Finset.mem_singleton_self _
theorem lvl_cell (c : Dev nD) (j : Fin 11) (u : Unit) : lvl (cell c j) u = levelOf j := elim_cell c j _ _

theorem owing_apply (l : List (Dev nD × Fin 11)) (c : Dev nD) (j : Fin 11) :
    owing l (cell c j) () = (l.map fun p => if p.1 = c ∧ p.2 = j then units j else 0).sum := by
  induction l with
  | nil => rfl
  | cons p l ih =>
    rw [owing, Pi.add_apply, Finsupp.add_apply, ih, tallyAt_apply, List.map_cons, List.sum_cons, Nat.add_comm]
    congr 1
    by_cases h : p.1 = c ∧ p.2 = j
    · rw [if_pos h, if_pos ⟨by rw [h.1, h.2], rfl⟩, h.2]
    · rw [if_neg h, if_neg fun h' => h ⟨(cell_inj.mp h'.1).1.symm, (cell_inj.mp h'.1).2.symm⟩]

theorem owing_pos {l : List (Dev nD × Fin 11)} {g : GSem nD τ sig} {u : Unit} (h : 0 < owing l g u) : ∃ p ∈ l, g = cell p.1 p.2 := by
  induction l with
  | nil => exact absurd h (Nat.lt_irrefl 0)
  | cons p l ih =>
    rw [owing, Pi.add_apply, Finsupp.add_apply, tallyAt_apply] at h
    by_cases hg : g = cell p.1 p.2
    · exact ⟨p, List.mem_cons_self, hg⟩
    · rw [if_neg fun h' => hg h'.1, Nat.add_zero] at h
      obtain ⟨q, hq, e⟩ := ih h
      exact ⟨q, List.mem_cons_of_mem _ hq, e⟩

/-- A wait on a semaphore below everything still owed is allowed. -/
theorem mayWait_of_below (c : Dev nD) (s : SemLoc sig) (l : List (Dev nD × Fin 11))
    (h : ∀ p ∈ l, (nameOf s).elim 0 levelOf < levelOf p.2) :
    (levAts lvlSet lvl : sProp 𝕄) ⊢ MayWait (c : Thread nD τ) s () (owing l) :=
  MayOwe.of_cut (L := lvlSet) (lev := lvl) ((nameOf s).elim 0 levelOf)
    (fun p hp => by rw [Finset.mem_singleton.mp hp]; exact lvlSet_tc c s)
    (fun g u hg => by obtain ⟨p, -, rfl⟩ := owing_pos hg; exact lvlSet_tc p.1 _)
    (fun p hp => by rw [Finset.mem_singleton.mp hp]; exact Nat.le_refl _)
    (fun g u hg => by obtain ⟨p, hp, rfl⟩ := owing_pos hg; rw [lvl_cell]; exact h p hp)

end Cert.KernelIdeal.Moe

end
-- ==== Proof.Steps.lean ====
/-
The launch's ghost state as one device holds it, the pipeline's proof data, and one rule for each kind of step that the
kernel's body takes on a semaphore: paying the barrier, starting a transfer, waiting.
-/
module

public import proofs.«01_k».proof.Proof.Protocol

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UAll ℕ

variable (m : (ℓ : Loc nD τ sig) → Buf (Elt F) ℓ) (ρ : Dev nD → PrngReg)

/-! ## Ghost state -/

/-- Every cell's invariant, at the name its allocation chose, and that every cell has reached its round 0. -/
def records (K : Dev nD × Fin 11 → ℕ) : sProp 𝕄 :=
  iprop((bigSep Finset.univ fun p : Dev nD × Fin 11 => cellInv EMoe (rounds m ρ) (K p) (cell p.1 p.2))
    ∗ bigSep Finset.univ fun p : Dev nD × Fin 11 => reached EMoe (cell p.1 p.2) 0)

instance records_persistent (K : Dev nD × Fin 11 → ℕ) : BI.Persistent (records m ρ K) := by unfold records; infer_instance

theorem records_inv (K : Dev nD × Fin 11 → ℕ) (c : Dev nD) (j : Fin 11) :
    records m ρ K ⊢ cellInv EMoe (rounds m ρ) (K (c, j)) (cell c j) := by
  have h : (bigSep Finset.univ fun p : Dev nD × Fin 11 => (cellInv EMoe (rounds m ρ) (K p) (cell p.1 p.2) : sProp 𝕄))
      ⊢ cellInv EMoe (rounds m ρ) (K (c, j)) (cell c j) := bigSep_elim (Finset.mem_univ (c, j))
  unfold records
  iintro ⟨HI, -⟩
  iapply h; iexact HI
theorem records_reached (K : Dev nD × Fin 11 → ℕ) (c : Dev nD) (j : Fin 11) : records m ρ K ⊢ reached EMoe (cell c j) 0 := by
  have h : (bigSep Finset.univ fun p : Dev nD × Fin 11 => (reached EMoe (cell p.1 p.2) 0 : sProp 𝕄)) ⊢ reached EMoe (cell c j) 0 :=
    bigSep_elim (Finset.mem_univ (c, j))
  unfold records
  iintro ⟨-, HR⟩
  iapply h; iexact HR

/-- Device `c`'s positions on its eleven semaphores, at round `R`. -/
def positions (c : Dev nD) (R : ℕ) : sProp 𝕄 := bigSep Finset.univ fun j : Fin 11 => atPos EMoe (cell c j) R ∅ 0
/-- The tokens of the duties device `c` pays: a unit on each neighbour's barrier, the five receive sides at its peers, and
    its own five send sides. -/
def payTokens (c : Dev nD) : sProp 𝕄 :=
  iprop(dutyTok EMoe (cell (yp c) 0) 0 false ∗ dutyTok EMoe (cell (zn c) 0) 0 true
    ∗ (bigSep Finset.univ fun k : Fin 5 => dutyTok EMoe (cell (peer k c) (recvJ k)) 0 false)
    ∗ bigSep Finset.univ fun k : Fin 5 => dutyTok EMoe (cell c (sendJ k)) 0 false)
/-- The credit it starts with, for everything others pay it. -/
def credits (c : Dev nD) : sProp 𝕄 :=
  iprop(cred (tallyAt (cell c 0) () 2) ∗ bigSep Finset.univ fun k : Fin 5 => cred (tallyAt (cell c (recvJ k)) () (units (recvJ k))))
def ghost (K : Dev nD × Fin 11 → ℕ) (c : Dev nD) : sProp 𝕄 := iprop(records m ρ K ∗ positions c 0 ∗ payTokens c)
def begins (c : Dev nD) : sProp 𝕄 := iprop((∃ K, ghost m ρ K c) ∗ credits c ∗ levAts lvlSet lvl)

/-- The kernel's seven buffers, at any contents. -/
def scratch (c : Dev nD) : sProp 𝕄 :=
  iprop((∃ f, held c cc0_scratch0 fullShare f) ∗ (∃ f, held c cc0_scratch1 fullShare f) ∗ (∃ f, held c cc0_scratch2 fullShare f)
    ∗ (∃ f, held c cc0_scratch3 fullShare f) ∗ (∃ f, held c cc0_scratch4 fullShare f) ∗ (∃ f, held c cc0_scratch5 fullShare f)
    ∗ (∃ f, held c cc0_scratch6 fullShare f))
/-- The eleven counters at zero. -/
def closed (c : Dev nD) : sProp 𝕄 := bigSep Finset.univ fun j : Fin 11 => semVal (cell c j) 0

def before (c : Dev nD) : sProp 𝕄 := iprop(begins m ρ c ∗ scratch c)
def done (c : Dev nD) : sProp 𝕄 := iprop(scratch (F := F) c ∗ closed c)

def dats (_ : Fin 1) (c : Dev nD) : Dat τ (Elt F) Unit ℕ UAll ℕ cfg0 c where
  A w := (start₀ m ρ).mem ((cfg0.win w).arr.view.loc (c : Thread nD τ))
  after w _ := match w with
    | ⟨0, _⟩ => xIn m ρ c
    | ⟨1, _⟩ => rIn m ρ c
    | ⟨2, _⟩ => w1In m ρ c
    | ⟨3, _⟩ => w2In m ρ c
    | ⟨4, _⟩ => outAt m ρ c
  Φ t := match t with
    | ⟨0, _⟩ => before m ρ c
    | ⟨_ + 1, _⟩ => done c
  q _ := fullShare
  owed t := match t with
    | ⟨0, _⟩ => owing (todo c)
    | ⟨_ + 1, _⟩ => 0

abbrev 𝒱₀ : Variants := Variants.none

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_eleven (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

/-! ## The three kinds of step -/

/-- What device `c` still owes, whatever it has waited for so far. -/
def owesNow (c : Dev nD) (l : List (Dev nD × Fin 11)) : sProp 𝕄 := iprop(∃ W, owes (c : Thread nD τ) (owing l) W)

theorem pay_send (c : Dev nD) (k : Fin 5) (b : Bool) : pay m ρ c (sendJ k) b = returned m ρ c k := by fin_cases k <;> rfl
theorem pay_recv (c : Dev nD) (k : Fin 5) (b : Bool) : pay m ρ c (recvJ k) b = landed m ρ c k := by fin_cases k <;> rfl
theorem mem_duties (j : Fin 11) : false ∈ dutiesOf j := by revert j; decide

section Rules

variable (K : Dev nD × Fin 11 → ℕ) (c : Dev nD)

/-- One unit on a neighbour's barrier, paying for duty `b` with what that duty hands over. -/
theorem wp_tell {α : Type} {Q : α → sProp 𝕄} {kont : PUnit → Prog (TpuEff nD τ sig (Elt F) Λ₀ .tc) α}
    {n d : Dev nD} (hn : n = d) (b : Bool) (l : List (Dev nD × Fin 11)) {k' : ℕ} (hk : units 0 = k')
    (hr : τ.routes (c : Thread nD τ) (d : Thread nD τ) = true := by routes) :
    iprop(records m ρ K ∗ owesNow c ((d, 0) :: l) ∗ dutyTok EMoe (cell d 0) 0 b ∗ pay m ρ d 0 b)
      ⊢ iprop((owesNow c l -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (Dev.tc n : Thread nD τ) barS k') kont) Q) := by
  subst hn hk
  unfold owesNow
  iintro ⟨#HK, ⟨%W, HO⟩, Ht, Hp⟩ Hk
  iapply (Rounds.wp_signal 𝒱₀ EMoe (rounds m ρ) (c : Thread nD τ) none (dst := (n : Thread nD τ)) (κ := K (n, 0)) (r := 0) (d := b)
      (by rw [show ((n : Thread nD τ), SemLoc.reg barS) = cell n 0 from rfl, duties_cell]; exact Finset.mem_univ _)
      (amount_cell m ρ n 0 b) () (owing l) rfl (hr := hr)) $$ [HO Ht Hp]
  · isplitr; · iapply (records_inv m ρ K n 0); iexact HK
    isplitl [HO]; · iexact HO
    isplitl [Ht]; · iexact Ht
    isplitl [Hp]; · iapply (Entails.of_eq (payload_cell m ρ n 0 b).symm); iexact Hp
    iapply (records_reached m ρ K n 0); iexact HK
  iintro HO
  iapply Hk
  iexists W; iexact HO

/-- Transfer `k` starts: the source share goes out, the destination will hold what was read. -/
theorem wp_transfer {α : Type} {Q : α → sProp 𝕄} {kont : PUnit → Prog (TpuEff nD τ sig (Elt F) Λ₀ .tc) α}
    (k : Fin 5) {n : Dev nD} (hn : n = peer k c) (l : List (Dev nD × Fin 11)) {s : Shape} {sS sR : SemLoc sig}
    (hsS : sS = semAt (sendJ k)) (hsR : sR = semAt (recvJ k))
    {src dst : Memref sig .tc .vmem s .f32} {hsc : dst.view.ref.isScScratch = false} {hsrc : src.view.WordExact} {hdst : dst.view.WordExact}
    {hsem : DmaTarget.Typed .vmem sR (.remote (Dev.tc n : Thread nD τ) dst sS hsc)}
    {q : PosShare TreeShare} {fs : Buf (Elt F) (src.view.loc (c : Thread nD τ))} {fd : Buf (Elt F) (dst.view.loc (peer k c : Thread nD τ))}
    (hN : dst.view.amount sR = units (recvJ k)) (hNS : units (sendJ k) = units (recvJ k))
    (hsend : (src.view.loc (c : Thread nD τ) ↦[src.view.set]{q} fs : sProp 𝕄) ⊢ returned m ρ c k)
    (hland : (dst.view.loc (peer k c : Thread nD τ) ↦[dst.view.set]{fullShare} dst.view.write (Elt F) fd (src.view.read (Elt F) fs) Finset.univ : sProp 𝕄)
      ⊢ landed m ρ (peer k c) k)
    (hr : τ.routes (c : Thread nD τ) (peer k c : Thread nD τ) = true := by routes) :
    iprop(records m ρ K ∗ (src.view.loc (c : Thread nD τ) ↦[src.view.set]{q} fs) ∗ (dst.view.loc (peer k c : Thread nD τ) ↦[dst.view.set]{fullShare} fd)
        ∗ owesNow c ((peer k c, recvJ k) :: l) ∗ dutyTok EMoe (cell c (sendJ k)) 0 false ∗ dutyTok EMoe (cell (peer k c) (recvJ k)) 0 false)
      ⊢ iprop(((cred (tallyAt (cell c (sendJ k)) () (units (sendJ k))) ∗ owesNow c l)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma src (.remote (Dev.tc n : Thread nD τ) dst sS hsc) sR hsrc hdst hsem) kont) Q) := by
  subst hn hsS hsR
  unfold owesNow
  iintro ⟨#HK, Hs, Hd, ⟨%W, HO⟩, HtS, HtR⟩ Hk
  iapply (Rounds.wp_send_pointsTo 𝒱₀ EMoe (rounds m ρ) (c : Thread nD τ) none (κ₁ := K (c, sendJ k)) (κ₂ := K (peer k c, recvJ k))
      (r₁ := 0) (r₂ := 0) (d₁ := false) (d₂ := false) (fs := fs) (fd := fd) (q := q)
      (by rw [duties_cell m ρ c (sendJ k)]; exact mem_duties _) (by rw [duties_cell m ρ (peer k c) (recvJ k)]; exact mem_duties _)
      () () (units (recvJ k)) hN ((amount_cell m ρ c (sendJ k) false).trans hNS) (amount_cell m ρ (peer k c) (recvJ k) false) (owing l) rfl (W := W)
      (by rw [payload_cell m ρ c (sendJ k), pay_send]; exact hsend)
      (by rw [payload_cell m ρ (peer k c) (recvJ k), pay_recv]; exact hland) (hr := hr)) $$ [Hs Hd HO HtS HtR]
  · isplitr; · iapply (records_inv m ρ K c (sendJ k)); iexact HK
    isplitr; · iapply (records_inv m ρ K (peer k c) (recvJ k)); iexact HK
    isplitl [Hs]; · iexact Hs
    isplitl [Hd]; · iexact Hd
    isplitl [HO]; · iexact HO
    isplitl [HtS]; · iexact HtS
    isplitr; · iapply (records_reached m ρ K c (sendJ k)); iexact HK
    isplitl [HtR]; · iexact HtR
    iapply (records_reached m ρ K (peer k c) (recvJ k)); iexact HK
  iintro ⟨Hc, HO⟩
  iapply Hk
  isplitl [Hc]; · rw [hNS]; iexact Hc
  iexists W; iexact HO

/-- Waiting for the whole of semaphore `j`'s round, with only later levels still owed. -/
theorem wp_await {α : Type} {Q : α → sProp 𝕄} {kont : PUnit → Prog (TpuEff nD τ sig (Elt F) Λ₀ .tc) α}
    (j : Fin 11) (l : List (Dev nD × Fin 11)) (js : List (Fin 11)) (hjs : l.map Prod.snd = js) (hl : ∀ i ∈ js, levelOf j < levelOf i)
    {w : TpuEff nD τ sig (Elt F) Λ₀ .tc PUnit} {sm : SemLoc sig} (hsm : sm = semAt j) {k' N : ℕ}
    (hw : ∀ R : PUnit → sProp 𝕄, wpE (defs₀ (F := F)) 𝒱₀ (c : Thread nD τ) none Set.univ w R = waitSpec (c : Thread nD τ) Set.univ sm k' R)
    (hk : k' = N) (hN : (rounds (F := F) m ρ).expect (cell c j) 0 = N) :
    iprop(records m ρ K ∗ levAts lvlSet lvl ∗ cred (tallyAt (cell c j) () N) ∗ owesNow c l ∗ atPos EMoe (cell c j) 0 ∅ 0)
      ⊢ iprop(((owesNow c l ∗ atPos EMoe (cell c j) 1 ∅ 0
              ∗ bigSep ((rounds (F := F) m ρ).duties (cell c j) 0 \ ∅) (fun b => (rounds (F := F) m ρ).payload (cell c j) 0 b))
            -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hsm hk hjs
  unfold owesNow
  iintro ⟨#HK, #Hlev, Hc, ⟨%W, HO⟩, Hat⟩ Hk
  iapply (Rounds.wp_wait_rest_token 𝒱₀ EMoe (rounds m ρ) (c : Thread nD τ) none (κ := K (c, j)) hw (Set.mem_univ _) () (O := owing l) (W := W)
      (R := 0) (m := 0) (T := ∅) ((Nat.zero_add _).trans hN.symm)) $$ [Hc HO Hat]
  · isplitr; · iapply (records_inv m ρ K c j); iexact HK
    isplitl [Hc]; · iexact Hc
    isplitl [HO]; · iexact HO
    isplitr
    · iapply (mayWait_of_below c (semAt j) l fun p hp => by
        rw [nameOf_semAt]; exact hl p.2 (List.mem_map_of_mem hp))
      iexact Hlev
    iexact Hat
  iintro ⟨HO, Hat, -, Hp⟩
  iapply Hk
  isplitl [HO]; · iexists _; iexact HO
  isplitl [Hat]; · iexact Hat
  iexact Hp

theorem close_one (j : Fin 11) : iprop(records m ρ K ∗ atPos EMoe (cell c j) 1 ∅ 0) ⊢ |={Set.univ}=> (semVal (cell c j) 0 : sProp 𝕄) := by
  iintro ⟨#HK, Hat⟩
  iapply (Rounds.cell_close EMoe (rounds m ρ) (Set.mem_univ (K (c, j))) (fun h => h) (R := 1) (duties_after m ρ (cell c j)))
  isplitr; · iapply (records_inv m ρ K c j); iexact HK
  iexact Hat

/-- Every semaphore closes after its one round: its counter is at zero. -/
theorem close_all : iprop(records m ρ K ∗ positions c 1) ⊢ |={Set.univ}=> closed (F := F) c := by
  unfold positions closed
  refine (sep_mono_left (BI.bigSep_of_persistent (Finset.univ : Finset (Fin 11)) (records m ρ K))).trans ?_
  rw [← bigSep_sep']
  exact (bigSep_mono fun j _ => close_one m ρ K c j).trans (bigSep_fupd _ _)

end Rules

end Cert.KernelIdeal.Moe

end
-- ==== Proof.Halves.lean ====
/-
The two halves of a result block: where each lands, and that together they cover it, so that the block does not depend on
what it is written over.
-/
module

public import proofs.«01_k».proof.Proof.Protocol
public import Idealize.ShloMosaic.Lib.ValueIdxCore

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UAll ℕ

variable (m : (ℓ : Loc nD τ sig) → Buf (Elt F) ℓ) (ρ : Dev nD → PrngReg)

theorem mine_val (c : Dev nD) (j : S128x512.Idx) (a : Fin 2) :
    ((oM.access (xRect c) : View sig .tc _ _ _).emb j a).val = k0_off2 c a + (j a).val := by
  show k0_off2 c a + 1 * (j a).val = _
  rw [Nat.one_mul]
theorem other_val (c : Dev nD) (j : S128x512.Idx) (a : Fin 2) :
    ((oM.access (xRect' c) : View sig .tc _ _ _).emb j a).val = k0_off3 c a + (j a).val := by
  show k0_off3 c a + 1 * (j a).val = _
  rw [Nat.one_mul]

/-- Row `r` of device `c`'s block is row `r % 128` of one of the halves. -/
def inHalf (i : S256x512.Idx) : S128x512.Idx := ValueIdx.ix2 ⟨(i 0).val % 128, Nat.mod_lt _ (by decide)⟩ (i 1)

theorem mine_emb (c : Dev nD) (i : S256x512.Idx) (h : (i 0).val / 128 = c.val % 2) :
    (oM.access (xRect c) : View sig .tc _ _ _).emb (inHalf i) = i := by
  refine funext fun a => Fin.ext ?_; rw [mine_val, k0_off2_eq]; revert a
  refine Fin.forall_fin_two.mpr ⟨?_, ?_⟩
  · show 128 * (c.val % 2) + (i 0).val % 128 = (i 0).val
    rw [← h]; exact Nat.div_add_mod _ _
  · show 0 + (i 1).val = (i 1).val
    exact Nat.zero_add _
theorem other_emb (c : Dev nD) (i : S256x512.Idx) (h : (i 0).val / 128 ≠ c.val % 2) :
    (oM.access (xRect' c) : View sig .tc _ _ _).emb (inHalf i) = i := by
  have hi : (i 0).val < 256 := (i 0).isLt
  refine funext fun a => Fin.ext ?_; rw [other_val, k0_off3_eq]; revert a
  refine Fin.forall_fin_two.mpr ⟨?_, ?_⟩
  · show 128 - 128 * (c.val % 2) + (i 0).val % 128 = (i 0).val
    omega
  · show 0 + (i 1).val = (i 1).val
    exact Nat.zero_add _

theorem outOver_other (c : Dev nD) (f : (cc0_stg4_0 : Ref sig .tc).ty.Contents (Elt F)) (i : S256x512.Idx) (h : (i 0).val / 128 ≠ c.val % 2) :
    outOver m ρ c f i = k0_pay15 (oSwap m ρ c) (cSwap m ρ c) (inHalf i) := by
  unfold outOver
  conv_lhs => rw [← other_emb c i h]
  exact View.write_emb_of_mem (v := (oM.access (xRect' c) : View sig .tc _ _ _)) _ _ (Finset.mem_univ _)
theorem outOver_mine (c : Dev nD) (f : (cc0_stg4_0 : Ref sig .tc).ty.Contents (Elt F)) (i : S256x512.Idx) (h : (i 0).val / 128 = c.val % 2) :
    outOver m ρ c f i = k0_pay14 (oMine m ρ c) (cIn m ρ c) (inHalf i) := by
  unfold outOver
  rw [View.write_of_not_mem (v := (oM.access (xRect' c) : View sig .tc _ _ _))]
  · conv_lhs => rw [← mine_emb c i h]
    exact View.write_emb_of_mem (v := (oM.access (xRect c) : View sig .tc _ _ _)) _ _ (Finset.mem_univ _)
  · intro hm
    obtain ⟨j, -, e⟩ := Finset.mem_map.mp hm
    have h0 := other_val c j 0
    rw [e, k0_off3_eq] at h0
    have hj : (j 0).val < 128 := (j 0).isLt
    have h1 : (i 0).val = 128 - 128 * (c.val % 2) + (j 0).val := h0
    omega
theorem outOver_base (c : Dev nD) (f g : (cc0_stg4_0 : Ref sig .tc).ty.Contents (Elt F)) : outOver m ρ c f = outOver m ρ c g := by
  funext i
  by_cases h : (i 0).val / 128 = c.val % 2
  · exact (outOver_mine m ρ c f i h).trans (outOver_mine m ρ c g i h).symm
  · exact (outOver_other m ρ c f i h).trans (outOver_other m ρ c g i h).symm

end Cert.KernelIdeal.Moe

end
-- ==== Proof.Body.lean ====
/-
The body of the kernel on one device, executed one step at a time from what the launch deals it to what the pipeline asks for.
-/
module

public import proofs.«01_k».proof.Proof.Steps
public import proofs.«01_k».proof.Proof.Halves

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UAll ℕ

variable (m : (ℓ : Loc nD τ sig) → Buf (Elt F) ℓ) (ρ : Dev nD → PrngReg)

/-! ## Views of whole buffers, and the two halves of the row blocks -/

theorem zero2 : (![0, 0] : Fin 2 → Nat) = fun _ => 0 := funext fun a => by fin_cases a <;> rfl

/-- A whole buffer, through its memref or by its location. -/
theorem whole_pts (c : Dev nD) (b : Ref sig .tc) (q : PosShare TreeShare) (f : Buf (Elt F) ((c : Thread nD τ).loc b)) :
    (((Memref.whole b).view.loc (c : Thread nD τ)) ↦[(Memref.whole b).view.set]{q} f : sProp 𝕄) = held c b q f := by
  simp only [Memref.view_whole, View.set_whole]

/-- A whole share of a buffer is its two halves. -/
theorem halves (c : Dev nD) (b : Ref sig .tc) (f : Buf (Elt F) ((c : Thread nD τ).loc b)) :
    held c b fullShare f ⊣⊢ iprop(held c b fullShare.left f ∗ held c b fullShare.right f) :=
  pointsTo_share (PosShare.mem_left_op_right fullShare)

/-- What a transfer between two whole buffers leaves: the source's contents. -/
theorem lands (d : Dev nD) (b : Ref sig .tc) (fd : Buf (Elt F) ((d : Thread nD τ).loc b)) (w : b.ty.Contents (Elt F)) :
    (((Memref.whole b).view.loc (d : Thread nD τ)) ↦[(Memref.whole b).view.set]{fullShare} (Memref.whole b).view.write (Elt F) fd w Finset.univ : sProp 𝕄)
      = held d b fullShare w := by
  rw [whole_pts]
  exact congrArg (held d b fullShare) (View.write_whole_univ (Val := Elt F) b fd w)

abbrev routerRect : Rect S512x2 := Rect.unit (s := S512x2) ![0, 0] S512x2.size inb_S512x2_S512x2_0_0
abbrev rowsRect : Rect S128x512 := Rect.unit (s := S128x512) ![0, 0] S128x512.size inb_S128x512_S128x512_0_0

theorem read_router (f : (cc0_stg1_0 : Ref sig .tc).ty.Contents (Elt F)) : rM.view.readAt (Elt F) routerRect.toLoadRect f = f :=
  Memref.readAt_unit_zero (Elt F) cc0_stg1_0 zero2 _ f
theorem read_rOther (f : (cc0_scratch0 : Ref sig .tc).ty.Contents (Elt F)) : rOtherM.view.readAt (Elt F) routerRect.toLoadRect f = f :=
  Memref.readAt_unit_zero (Elt F) cc0_scratch0 zero2 _ f
theorem read_tok (f : (cc0_scratch1 : Ref sig .tc).ty.Contents (Elt F)) : tokM.view.readAt (Elt F) rowsRect.toLoadRect f = f :=
  Memref.readAt_unit_zero (Elt F) cc0_scratch1 zero2 _ f
theorem read_cIn (f : (cc0_scratch3 : Ref sig .tc).ty.Contents (Elt F)) : cInM.view.readAt (Elt F) rowsRect.toLoadRect f = f :=
  Memref.readAt_unit_zero (Elt F) cc0_scratch3 zero2 _ f
theorem read_cSwap (f : (cc0_scratch4 : Ref sig .tc).ty.Contents (Elt F)) : cSwapM.view.readAt (Elt F) rowsRect.toLoadRect f = f :=
  Memref.readAt_unit_zero (Elt F) cc0_scratch4 zero2 _ f
theorem read_oMine (f : (cc0_scratch5 : Ref sig .tc).ty.Contents (Elt F)) : oMineM.view.readAt (Elt F) rowsRect.toLoadRect f = f :=
  Memref.readAt_unit_zero (Elt F) cc0_scratch5 zero2 _ f
theorem read_oSwap (f : (cc0_scratch6 : Ref sig .tc).ty.Contents (Elt F)) : oSwapM.view.readAt (Elt F) rowsRect.toLoadRect f = f :=
  Memref.readAt_unit_zero (Elt F) cc0_scratch6 zero2 _ f
theorem write_cOut (f w : (cc0_scratch2 : Ref sig .tc).ty.Contents (Elt F)) :
    (cOutM.access rowsRect : View sig .tc _ _ _).write (Elt F) f w Finset.univ = w :=
  Memref.write_access_unit_zero_univ (Elt F) cc0_scratch2 zero2 _ f w
theorem write_oMine (f w : (cc0_scratch5 : Ref sig .tc).ty.Contents (Elt F)) :
    (oMineM.access rowsRect : View sig .tc _ _ _).write (Elt F) f w Finset.univ = w :=
  Memref.write_access_unit_zero_univ (Elt F) cc0_scratch5 zero2 _ f w

/-- The share of x that transfer 1 lends, and the rest of that half share. -/
theorem x_parts (c : Dev nD) (f : Buf (Elt F) ((c : Thread nD τ).loc cc0_stg0_0)) :
    held c cc0_stg0_0 fullShare.right f
      ⊣⊢ iprop(xLent c f ∗ ((c : Thread nD τ).loc cc0_stg0_0) ↦[Finset.univ \ (xHalfM c).view.set]{fullShare.right} f) :=
  pointsTo_split_subset (Finset.subset_univ _)

/-! ## What each transfer leaves at the peer -/

theorem left_router (c : Dev nD) : held (peer 0 c) cc0_scratch0 fullShare (rIn m ρ c) = landed m ρ (peer 0 c) 0 := by
  show _ = held (yp c) cc0_scratch0 fullShare (rIn m ρ (yp (yp c)))
  rw [yp_yp]
theorem left_rows (c : Dev nD) :
    held (peer 1 c) cc0_scratch1 fullShare ((xHalfM c).view.read (Elt F) (xIn m ρ c)) = landed m ρ (peer 1 c) 1 := by
  show _ = held (yp c) cc0_scratch1 fullShare (tokIn m ρ (yp c))
  unfold tokIn; rw [yp_yp]
theorem left_cOut (c : Dev nD) : held (peer 2 c) cc0_scratch3 fullShare (cOut m ρ c) = landed m ρ (peer 2 c) 2 := by
  show _ = held (yp c) cc0_scratch3 fullShare (cIn m ρ (yp c))
  unfold cIn; rw [yp_yp]
theorem left_oMine (c : Dev nD) : held (peer 3 c) cc0_scratch6 fullShare (oMine m ρ c) = landed m ρ (peer 3 c) 3 := by
  show _ = held (zn c) cc0_scratch6 fullShare (oSwap m ρ (zn c))
  unfold oSwap; rw [zn_zn]
theorem left_cIn (c : Dev nD) : held (peer 4 c) cc0_scratch4 fullShare (cIn m ρ c) = landed m ρ (peer 4 c) 4 := by
  show _ = held (zn c) cc0_scratch4 fullShare (cSwap m ρ (zn c))
  unfold cSwap; rw [zn_zn]

section Body

variable (K : Dev nD × Fin 11 → ℕ)

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ held c b fullShare f)

def bodyPost (c : Dev nD) : sProp 𝕄 :=
  iprop(done c ∗ owesNow c [] ∗ held c cc0_stg0_0 fullShare (xIn m ρ c) ∗ held c cc0_stg1_0 fullShare (rIn m ρ c)
    ∗ held c cc0_stg2_0 fullShare (w1In m ρ c) ∗ held c cc0_stg3_0 fullShare (w2In m ρ c) ∗ ∃ f, held c cc0_stg4_0 fullShare (outOver m ρ c f))

set_option maxHeartbeats 4000000 in
set_option maxRecDepth 8000 in
theorem body_sound (c : Dev nD) (Kt : PUnit → sProp 𝕄) :
    iprop((ghost m ρ K c ∗ credits c ∗ levAts lvlSet lvl ∗ scratch c ∗ owesNow c (todo c)
        ∗ held c cc0_stg0_0 fullShare (xIn m ρ c) ∗ held c cc0_stg1_0 fullShare (rIn m ρ c)
        ∗ held c cc0_stg2_0 fullShare (w1In m ρ c) ∗ held c cc0_stg3_0 fullShare (w2In m ρ c) ∗ ∃ f, held c cc0_stg4_0 fullShare f)
      ∗ (bodyPost m ρ c -∗ Kt ⟨⟩))
      ⊢ wp frame (wpE (defs₀ (F := F)) 𝒱₀ (c : Thread nD τ) none) Set.univ
          (cc0_body xM (Memref.isWhole_whole _) rM (Memref.isWhole_whole _) w1M (Memref.isWhole_whole _) w2M (Memref.isWhole_whole _)
            oM (Memref.isWhole_whole _) rOtherM (Memref.isWhole_whole _) tokM (Memref.isWhole_whole _) cOutM (Memref.isWhole_whole _)
            cInM (Memref.isWhole_whole _) cSwapM (Memref.isWhole_whole _) oMineM (Memref.isWhole_whole _) oSwapM (Memref.isWhole_whole _)
            cc0_scratch7 cc0_scratch8) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold ghost credits scratch payTokens positions
  simp only [bigSep_five, bigSep_eleven]
  iintro ⟨⟨⟨#HK, ⟨Hat0, Hat1, Hat2, Hat3, Hat4, Hat5, Hat6, Hat7, Hat8, Hat9, Hat10⟩, HtY, HtZ, ⟨HtR0, HtR1, HtR2, HtR3, HtR4⟩, HtS0, HtS1, HtS2, HtS3, HtS4⟩,
    ⟨HcB, Hc6, Hc7, Hc8, Hc9, Hc10⟩, #Hlev, ⟨⟨%f0, H0⟩, ⟨%f1, H1⟩, ⟨%f2, H2⟩, ⟨%f3, H3⟩, ⟨%f4, H4⟩, ⟨%f5, H5⟩, ⟨%f6, H6⟩⟩, HO, Hx, Hr, Hw1, Hw2, ⟨%fo, Hout⟩⟩, Hk⟩
  unfold todo
  -- the barrier: a unit across y, a unit across z, and the wait for the two that come back
  iapply (wp_tell m ρ K c (dev1_eq c) false _ (by decide)) $$ [HO HtY H0 H1 H3]
  · isplitr; · iexact HK
    isplitl [HO]; · iexact HO
    isplitl [HtY]; · iexact HtY
    iapply (Entails.of_eq (show offerY c = pay m ρ (yp c) 0 false by show offerY c = offerY (yp (yp c)); rw [yp_yp]))
    unfold offerY
    isplitl [H0]; · iexists f0; iexact H0
    isplitl [H1]; · iexists f1; iexact H1
    iexists f3; iexact H3
  iintro HO
  iapply (wp_tell m ρ K c (dev2_eq c) true _ (by decide)) $$ [HO HtZ H4 H6]
  · isplitr; · iexact HK
    isplitl [HO]; · iexact HO
    isplitl [HtZ]; · iexact HtZ
    iapply (Entails.of_eq (show offerZ c = pay m ρ (zn c) 0 true by show offerZ c = offerZ (zn (zn c)); rw [zn_zn]))
    unfold offerZ
    isplitl [H6]; · iexists f6; iexact H6
    iexists f4; iexact H4
  iintro HO
  iapply (wp_await m ρ K c 0 [(peer 0 c, 6), (peer 1 c, 7), (peer 2 c, 8), (peer 3 c, 9), (peer 4 c, 10)] [6, 7, 8, 9, 10] rfl (by decide) rfl (wpE_semWait_eq 𝒱₀ (c : Thread nD τ) none Set.univ) rfl (expect_bar m ρ c)) $$ [HcB HO Hat0]
  · isplitr; · iexact HK
    isplitr; · iexact Hlev
    isplitl [HcB]; · iexact HcB
    isplitl [HO]; · iexact HO
    iexact Hat0
  iintro ⟨HO, Hat0, Hpay⟩
  ihave Hp := (Entails.of_eq (round_bar m ρ c)) $$ Hpay
  unfold offerY offerZ
  icases Hp with ⟨⟨⟨%g0, G0⟩, ⟨%g1, G1⟩, ⟨%g3, G3⟩⟩, ⟨%g6, G6⟩, ⟨%g4, G4⟩⟩
  -- the router block and this half of x go out, a half share of each
  ihave Hr2 := (halves c cc0_stg1_0 (rIn m ρ c)).1 $$ Hr
  icases Hr2 with ⟨Hr, Hr'⟩
  ihave Hx2 := (halves c cc0_stg0_0 (xIn m ρ c)).1 $$ Hx
  icases Hx2 with ⟨Hx, Hx'⟩
  ihave Hx3 := (x_parts c (xIn m ρ c)).1 $$ Hx'
  icases Hx3 with ⟨Hx', Hx''⟩
  ihave Hr' := (Entails.of_eq (whole_pts c cc0_stg1_0 fullShare.right (rIn m ρ c)).symm) $$ Hr'
  ihave G0 := (Entails.of_eq (whole_pts (peer 0 c) cc0_scratch0 fullShare g0).symm) $$ G0
  iapply (wp_transfer (fd := g0) (src := rM) (dst := rOtherM) (fs := rIn m ρ c) m ρ K c 0 (dev3_eq c) _ rfl rfl ((show rOtherM.view.amount (semAt 6) = nR from rfl).trans (units_router 6 (by decide)).symm) ((units_router 1 (by decide)).trans (units_router 6 (by decide)).symm) (Entails.of_eq (whole_pts c cc0_stg1_0 fullShare.right (rIn m ρ c))) (Entails.of_eq ((lands (peer 0 c) cc0_scratch0 g0 _).trans (left_router m ρ c)))) $$ [Hr' G0 HO HtS0 HtR0]
  · isplitr; · iexact HK
    isplitl [Hr']; · iexact Hr'
    isplitl [G0]; · iexact G0
    isplitl [HO]; · iexact HO
    isplitl [HtS0]; · iexact HtS0
    iexact HtR0
  iintro ⟨Hc1, HO⟩
  ihave G1 := (Entails.of_eq (whole_pts (peer 1 c) cc0_scratch1 fullShare g1).symm) $$ G1
  iapply (wp_transfer (fd := g1) (src := (xHalfM c)) (dst := tokM) (fs := xIn m ρ c) m ρ K c 1 (dev4_eq c) _ rfl rfl ((show tokM.view.amount (semAt 7) = nT from rfl).trans (units_rows 7 (by decide) (by decide)).symm) ((units_rows 2 (by decide) (by decide)).trans (units_rows 7 (by decide) (by decide)).symm) (BI.Entails.refl _) (Entails.of_eq ((lands (peer 1 c) cc0_scratch1 g1 _).trans (left_rows m ρ c)))) $$ [Hx' G1 HO HtS1 HtR1]
  · isplitr; · iexact HK
    isplitl [Hx']; · iexact Hx'
    isplitl [G1]; · iexact G1
    isplitl [HO]; · iexact HO
    isplitl [HtS1]; · iexact HtS1
    iexact HtR1
  iintro ⟨Hc2, HO⟩
  -- the peer's router block and rows
  iapply (wp_await m ρ K c 6 [(peer 2 c, 8), (peer 3 c, 9), (peer 4 c, 10)] [8, 9, 10] rfl (by decide) rfl (wpE_waitDma2_eq 𝒱₀ (c : Thread nD τ) none Set.univ) ((show rOtherM.view.dmaCredit = nR from rfl).trans (units_router 6 (by decide)).symm) (expect_one m ρ c 6 (by decide))) $$ [Hc6 HO Hat6]
  · isplitr; · iexact HK
    isplitr; · iexact Hlev
    isplitl [Hc6]; · iexact Hc6
    isplitl [HO]; · iexact HO
    iexact Hat6
  iintro ⟨HO, Hat6, Hpay⟩
  ihave Hp := (Entails.of_eq (round_one m ρ c 6 (by decide))) $$ Hpay
  ihave H0 := (Entails.of_eq (show pay m ρ c 6 false = held c cc0_scratch0 fullShare (rIn m ρ (yp c)) from rfl)) $$ Hp
  iapply (wp_await m ρ K c 7 [(peer 2 c, 8), (peer 3 c, 9), (peer 4 c, 10)] [8, 9, 10] rfl (by decide) rfl (wpE_waitDma2_eq 𝒱₀ (c : Thread nD τ) none Set.univ) ((show tokM.view.dmaCredit = nT from rfl).trans (units_rows 7 (by decide) (by decide)).symm) (expect_one m ρ c 7 (by decide))) $$ [Hc7 HO Hat7]
  · isplitr; · iexact HK
    isplitr; · iexact Hlev
    isplitl [Hc7]; · iexact Hc7
    isplitl [HO]; · iexact HO
    iexact Hat7
  iintro ⟨HO, Hat7, Hpay⟩
  ihave Hp := (Entails.of_eq (round_one m ρ c 7 (by decide))) $$ Hpay
  ihave H1 := (Entails.of_eq (show pay m ρ c 7 false = held c cc0_scratch1 fullShare (tokIn m ρ c) from rfl)) $$ Hp
  -- this device's experts on the peer's rows
  -- this device's experts on the peer's rows
  iapply (wp_load 𝒱₀ (c : Thread nD τ) none Set.univ (m := rM) (Finset.subset_univ _)) $$ Hr; iintro Hr
  rw [read_router]
  iapply (wp_load 𝒱₀ (c : Thread nD τ) none Set.univ (m := rOtherM) (Finset.subset_univ _)) $$ H0; iintro H0
  rw [read_rOther]
  iapply (wp_load 𝒱₀ (c : Thread nD τ) none Set.univ (m := tokM) (Finset.subset_univ _)) $$ H1; iintro H1
  rw [read_tok]
  iapply (wp_load 𝒱₀ (c : Thread nD τ) none Set.univ (m := w1M) (Finset.subset_univ _)) $$ Hw1; iintro Hw1
  iapply (wp_load 𝒱₀ (c : Thread nD τ) none Set.univ (m := w2M) (Finset.subset_univ _)) $$ Hw2; iintro Hw2
  iapply (wp_load 𝒱₀ (c : Thread nD τ) none Set.univ (m := w1M) (Finset.subset_univ _)) $$ Hw1; iintro Hw1
  iapply (wp_load 𝒱₀ (c : Thread nD τ) none Set.univ (m := w2M) (Finset.subset_univ _)) $$ Hw2; iintro Hw2
  iapply (wp_load 𝒱₀ (c : Thread nD τ) none Set.univ (m := cOutM) (Finset.subset_univ _)) $$ H2; iintro H2
  iapply (wp_store 𝒱₀ (c : Thread nD τ) none Set.univ (m := cOutM) (r := rowsRect) (Mk := Finset.univ) (Finset.subset_univ _)) $$ H2; iintro H2
  ihave H2 := (Entails.of_eq ((congrArg (held c cc0_scratch2 fullShare) ((write_cOut f2 (cOutVal m ρ c)).trans (show cOutVal m ρ c = cOut m ρ c from rfl))).trans (whole_pts c cc0_scratch2 fullShare _).symm)) $$ H2
  ihave G3 := (Entails.of_eq (whole_pts (peer 2 c) cc0_scratch3 fullShare g3).symm) $$ G3
  iapply (wp_transfer (fd := g3) (src := cOutM) (dst := cInM) (fs := cOut m ρ c) m ρ K c 2 (dev5_eq c) _ rfl rfl ((show cInM.view.amount (semAt 8) = nT from rfl).trans (units_rows 8 (by decide) (by decide)).symm) ((units_rows 3 (by decide) (by decide)).trans (units_rows 8 (by decide) (by decide)).symm) (Entails.of_eq (whole_pts c cc0_scratch2 fullShare (cOut m ρ c))) (Entails.of_eq ((lands (peer 2 c) cc0_scratch3 g3 _).trans (left_cOut m ρ c)))) $$ [H2 G3 HO HtS2 HtR2]
  · isplitr; · iexact HK
    isplitl [H2]; · iexact H2
    isplitl [G3]; · iexact G3
    isplitl [HO]; · iexact HO
    isplitl [HtS2]; · iexact HtS2
    iexact HtR2
  iintro ⟨Hc3, HO⟩
  -- and on its own
  iapply (wp_load 𝒱₀ (c : Thread nD τ) none Set.univ (m := xM) (Finset.subset_univ _)) $$ Hx; iintro Hx
  iapply (wp_load 𝒱₀ (c : Thread nD τ) none Set.univ (m := w1M) (Finset.subset_univ _)) $$ Hw1; iintro Hw1
  iapply (wp_load 𝒱₀ (c : Thread nD τ) none Set.univ (m := w2M) (Finset.subset_univ _)) $$ Hw2; iintro Hw2
  iapply (wp_load 𝒱₀ (c : Thread nD τ) none Set.univ (m := w1M) (Finset.subset_univ _)) $$ Hw1; iintro Hw1
  iapply (wp_load 𝒱₀ (c : Thread nD τ) none Set.univ (m := w2M) (Finset.subset_univ _)) $$ Hw2; iintro Hw2
  iapply (wp_load 𝒱₀ (c : Thread nD τ) none Set.univ (m := oMineM) (Finset.subset_univ _)) $$ H5; iintro H5
  iapply (wp_store 𝒱₀ (c : Thread nD τ) none Set.univ (m := oMineM) (r := rowsRect) (Mk := Finset.univ) (Finset.subset_univ _)) $$ H5; iintro H5
  ihave H5 := (Entails.of_eq (congrArg (held c cc0_scratch5 fullShare) ((write_oMine f5 (oMineVal m ρ c)).trans (show oMineVal m ρ c = oMine m ρ c from rfl)))) $$ H5
  ihave H5s := (halves c cc0_scratch5 (oMine m ρ c)).1 $$ H5
  icases H5s with ⟨H5, H5'⟩
  ihave H5' := (Entails.of_eq (whole_pts c cc0_scratch5 fullShare.right (oMine m ρ c)).symm) $$ H5'
  ihave G6 := (Entails.of_eq (whole_pts (peer 3 c) cc0_scratch6 fullShare g6).symm) $$ G6
  iapply (wp_transfer (fd := g6) (src := oMineM) (dst := oSwapM) (fs := oMine m ρ c) m ρ K c 3 (dev6_eq c) _ rfl rfl ((show oSwapM.view.amount (semAt 9) = nT from rfl).trans (units_rows 9 (by decide) (by decide)).symm) ((units_rows 4 (by decide) (by decide)).trans (units_rows 9 (by decide) (by decide)).symm) (Entails.of_eq (whole_pts c cc0_scratch5 fullShare.right (oMine m ρ c))) (Entails.of_eq ((lands (peer 3 c) cc0_scratch6 g6 _).trans (left_oMine m ρ c)))) $$ [H5' G6 HO HtS3 HtR3]
  · isplitr; · iexact HK
    isplitl [H5']; · iexact H5'
    isplitl [G6]; · iexact G6
    isplitl [HO]; · iexact HO
    isplitl [HtS3]; · iexact HtS3
    iexact HtR3
  iintro ⟨Hc4, HO⟩
  iapply (wp_await m ρ K c 8 [(peer 4 c, 10)] [10] rfl (by decide) rfl (wpE_waitDma2_eq 𝒱₀ (c : Thread nD τ) none Set.univ) ((show cInM.view.dmaCredit = nT from rfl).trans (units_rows 8 (by decide) (by decide)).symm) (expect_one m ρ c 8 (by decide))) $$ [Hc8 HO Hat8]
  · isplitr; · iexact HK
    isplitr; · iexact Hlev
    isplitl [Hc8]; · iexact Hc8
    isplitl [HO]; · iexact HO
    iexact Hat8
  iintro ⟨HO, Hat8, Hpay⟩
  ihave Hp := (Entails.of_eq (round_one m ρ c 8 (by decide))) $$ Hpay
  ihave H3 := (Entails.of_eq (show pay m ρ c 8 false = held c cc0_scratch3 fullShare (cIn m ρ c) from rfl)) $$ Hp
  ihave H3s := (halves c cc0_scratch3 (cIn m ρ c)).1 $$ H3
  icases H3s with ⟨H3, H3'⟩
  ihave H3' := (Entails.of_eq (whole_pts c cc0_scratch3 fullShare.right (cIn m ρ c)).symm) $$ H3'
  ihave G4 := (Entails.of_eq (whole_pts (peer 4 c) cc0_scratch4 fullShare g4).symm) $$ G4
  iapply (wp_transfer (fd := g4) (src := cInM) (dst := cSwapM) (fs := cIn m ρ c) m ρ K c 4 (dev7_eq c) _ rfl rfl ((show cSwapM.view.amount (semAt 10) = nT from rfl).trans (units_rows 10 (by decide) (by decide)).symm) ((units_rows 5 (by decide) (by decide)).trans (units_rows 10 (by decide) (by decide)).symm) (Entails.of_eq (whole_pts c cc0_scratch3 fullShare.right (cIn m ρ c))) (Entails.of_eq ((lands (peer 4 c) cc0_scratch4 g4 _).trans (left_cIn m ρ c)))) $$ [H3' G4 HO HtS4 HtR4]
  · isplitr; · iexact HK
    isplitl [H3']; · iexact H3'
    isplitl [G4]; · iexact G4
    isplitl [HO]; · iexact HO
    isplitl [HtS4]; · iexact HtS4
    iexact HtR4
  iintro ⟨Hc5, HO⟩
  -- this device's half of the result
  iapply (wp_load 𝒱₀ (c : Thread nD τ) none Set.univ (m := oMineM) (Finset.subset_univ _)) $$ H5; iintro H5
  rw [read_oMine]
  iapply (wp_load 𝒱₀ (c : Thread nD τ) none Set.univ (m := cInM) (Finset.subset_univ _)) $$ H3; iintro H3
  rw [read_cIn]
  iapply (wp_load 𝒱₀ (c : Thread nD τ) none Set.univ (m := oM) (Finset.subset_univ _)) $$ Hout; iintro Hout
  iapply (wp_store 𝒱₀ (c : Thread nD τ) none Set.univ (m := oM) (r := xRect c) (Mk := Finset.univ) (Finset.subset_univ _)) $$ Hout; iintro Hout
  -- the other half comes from the device across z
  iapply (wp_await m ρ K c 9 [] [] rfl (by decide) rfl (wpE_waitDma2_eq 𝒱₀ (c : Thread nD τ) none Set.univ) ((show oSwapM.view.dmaCredit = nT from rfl).trans (units_rows 9 (by decide) (by decide)).symm) (expect_one m ρ c 9 (by decide))) $$ [Hc9 HO Hat9]
  · isplitr; · iexact HK
    isplitr; · iexact Hlev
    isplitl [Hc9]; · iexact Hc9
    isplitl [HO]; · iexact HO
    iexact Hat9
  iintro ⟨HO, Hat9, Hpay⟩
  ihave Hp := (Entails.of_eq (round_one m ρ c 9 (by decide))) $$ Hpay
  ihave H6 := (Entails.of_eq (show pay m ρ c 9 false = held c cc0_scratch6 fullShare (oSwap m ρ c) from rfl)) $$ Hp
  iapply (wp_await m ρ K c 10 [] [] rfl (by decide) rfl (wpE_waitDma2_eq 𝒱₀ (c : Thread nD τ) none Set.univ) ((show cSwapM.view.dmaCredit = nT from rfl).trans (units_rows 10 (by decide) (by decide)).symm) (expect_one m ρ c 10 (by decide))) $$ [Hc10 HO Hat10]
  · isplitr; · iexact HK
    isplitr; · iexact Hlev
    isplitl [Hc10]; · iexact Hc10
    isplitl [HO]; · iexact HO
    iexact Hat10
  iintro ⟨HO, Hat10, Hpay⟩
  ihave Hp := (Entails.of_eq (round_one m ρ c 10 (by decide))) $$ Hpay
  ihave H4 := (Entails.of_eq (show pay m ρ c 10 false = held c cc0_scratch4 fullShare (cSwap m ρ c) from rfl)) $$ Hp
  iapply (wp_load 𝒱₀ (c : Thread nD τ) none Set.univ (m := oSwapM) (Finset.subset_univ _)) $$ H6; iintro H6
  rw [read_oSwap]
  iapply (wp_load 𝒱₀ (c : Thread nD τ) none Set.univ (m := cSwapM) (Finset.subset_univ _)) $$ H4; iintro H4
  rw [read_cSwap]
  iapply (wp_load 𝒱₀ (c : Thread nD τ) none Set.univ (m := oM) (Finset.subset_univ _)) $$ Hout; iintro Hout
  iapply (wp_store 𝒱₀ (c : Thread nD τ) none Set.univ (m := oM) (r := xRect' c) (Mk := Finset.univ) (Finset.subset_univ _)) $$ Hout; iintro Hout
  -- the five send sides, and what they give back
  iapply (wp_await m ρ K c 1 [] [] rfl (by decide) rfl (wpE_waitDma2_eq 𝒱₀ (c : Thread nD τ) none Set.univ) ((show rM.view.dmaCredit = nR from rfl).trans (units_router 1 (by decide)).symm) (expect_one m ρ c 1 (by decide))) $$ [Hc1 HO Hat1]
  · isplitr; · iexact HK
    isplitr; · iexact Hlev
    isplitl [Hc1]; · iexact Hc1
    isplitl [HO]; · iexact HO
    iexact Hat1
  iintro ⟨HO, Hat1, Hpay⟩
  ihave Hp := (Entails.of_eq (round_one m ρ c 1 (by decide))) $$ Hpay
  ihave B0 := (Entails.of_eq (show pay m ρ c 1 false = returned m ρ c 0 from rfl)) $$ Hp
  iapply (wp_await m ρ K c 2 [] [] rfl (by decide) rfl (wpE_waitDma2_eq 𝒱₀ (c : Thread nD τ) none Set.univ) ((show (xHalfM c).view.dmaCredit = nT from rfl).trans (units_rows 2 (by decide) (by decide)).symm) (expect_one m ρ c 2 (by decide))) $$ [Hc2 HO Hat2]
  · isplitr; · iexact HK
    isplitr; · iexact Hlev
    isplitl [Hc2]; · iexact Hc2
    isplitl [HO]; · iexact HO
    iexact Hat2
  iintro ⟨HO, Hat2, Hpay⟩
  ihave Hp := (Entails.of_eq (round_one m ρ c 2 (by decide))) $$ Hpay
  ihave B1 := (Entails.of_eq (show pay m ρ c 2 false = returned m ρ c 1 from rfl)) $$ Hp
  iapply (wp_await m ρ K c 3 [] [] rfl (by decide) rfl (wpE_waitDma2_eq 𝒱₀ (c : Thread nD τ) none Set.univ) ((show cOutM.view.dmaCredit = nT from rfl).trans (units_rows 3 (by decide) (by decide)).symm) (expect_one m ρ c 3 (by decide))) $$ [Hc3 HO Hat3]
  · isplitr; · iexact HK
    isplitr; · iexact Hlev
    isplitl [Hc3]; · iexact Hc3
    isplitl [HO]; · iexact HO
    iexact Hat3
  iintro ⟨HO, Hat3, Hpay⟩
  ihave Hp := (Entails.of_eq (round_one m ρ c 3 (by decide))) $$ Hpay
  ihave B2 := (Entails.of_eq (show pay m ρ c 3 false = returned m ρ c 2 from rfl)) $$ Hp
  iapply (wp_await m ρ K c 4 [] [] rfl (by decide) rfl (wpE_waitDma2_eq 𝒱₀ (c : Thread nD τ) none Set.univ) ((show oMineM.view.dmaCredit = nT from rfl).trans (units_rows 4 (by decide) (by decide)).symm) (expect_one m ρ c 4 (by decide))) $$ [Hc4 HO Hat4]
  · isplitr; · iexact HK
    isplitr; · iexact Hlev
    isplitl [Hc4]; · iexact Hc4
    isplitl [HO]; · iexact HO
    iexact Hat4
  iintro ⟨HO, Hat4, Hpay⟩
  ihave Hp := (Entails.of_eq (round_one m ρ c 4 (by decide))) $$ Hpay
  ihave B3 := (Entails.of_eq (show pay m ρ c 4 false = returned m ρ c 3 from rfl)) $$ Hp
  iapply (wp_await m ρ K c 5 [] [] rfl (by decide) rfl (wpE_waitDma2_eq 𝒱₀ (c : Thread nD τ) none Set.univ) ((show cInM.view.dmaCredit = nT from rfl).trans (units_rows 5 (by decide) (by decide)).symm) (expect_one m ρ c 5 (by decide))) $$ [Hc5 HO Hat5]
  · isplitr; · iexact HK
    isplitr; · iexact Hlev
    isplitl [Hc5]; · iexact Hc5
    isplitl [HO]; · iexact HO
    iexact Hat5
  iintro ⟨HO, Hat5, Hpay⟩
  ihave Hp := (Entails.of_eq (round_one m ρ c 5 (by decide))) $$ Hpay
  ihave B4 := (Entails.of_eq (show pay m ρ c 5 false = returned m ρ c 4 from rfl)) $$ Hp
  ihave Hpos := (Entails.of_eq (bigSep_eleven (fun j => (atPos EMoe (cell c j) 1 ∅ 0 : sProp 𝕄))).symm) $$ [Hat0 Hat1 Hat2 Hat3 Hat4 Hat5 Hat6 Hat7 Hat8 Hat9 Hat10]
  · isplitl [Hat0]; · iexact Hat0
    isplitl [Hat1]; · iexact Hat1
    isplitl [Hat2]; · iexact Hat2
    isplitl [Hat3]; · iexact Hat3
    isplitl [Hat4]; · iexact Hat4
    isplitl [Hat5]; · iexact Hat5
    isplitl [Hat6]; · iexact Hat6
    isplitl [Hat7]; · iexact Hat7
    isplitl [Hat8]; · iexact Hat8
    isplitl [Hat9]; · iexact Hat9
    iexact Hat10
  imod (close_all m ρ K c) $$ [Hpos] with Hz
  · isplitr; · iexact HK
    unfold positions; iexact Hpos
  rw [wp_ret]; imodintro
  iapply Hk
  unfold bodyPost done scratch returned
  isplitl [Hz H0 H1 B2 H3 B4 H4 H5 B3 H6]
  · isplitl [H0 H1 B2 H3 B4 H4 H5 B3 H6]
    · isplitl [H0]; · iexists _; iexact H0
      isplitl [H1]; · iexists _; iexact H1
      isplitl [B2]; · iexists _; iexact B2
      isplitl [H3 B4]
      · iexists _; iapply (halves c cc0_scratch3 (cIn m ρ c)).2
        isplitl [H3] <;> iassumption
      isplitl [H4]; · iexists _; iexact H4
      isplitl [H5 B3]
      · iexists _; iapply (halves c cc0_scratch5 (oMine m ρ c)).2
        isplitl [H5] <;> iassumption
      iexists _; iexact H6
    iexact Hz
  isplitl [HO]; · iexact HO
  isplitl [Hx B1 Hx'']
  · iapply (halves c cc0_stg0_0 (xIn m ρ c)).2
    isplitl [Hx]; · iexact Hx
    iapply (x_parts c (xIn m ρ c)).2
    isplitl [B1] <;> iassumption
  isplitl [Hr B0]
  · iapply (halves c cc0_stg1_0 (rIn m ρ c)).2
    isplitl [Hr] <;> iassumption
  isplitl [Hw1]; · iexact Hw1
  isplitl [Hw2]; · iexact Hw2
  iexists fo; iexact Hout

theorem owns_whole (c : Dev nD) (b : Ref sig .tc) (X : b.ty.Contents (Elt F)) :
    (owns (Ix := Unit) (Name := ℕ) (U := UAll) (Lvl := ℕ) (c : Thread nD τ) (Memref.whole b) fullShare X : sProp 𝕄) = stg c b X := by
  unfold owns; simp only [Memref.view_whole, View.read_whole, View.set_whole]

theorem before_0 (c : Dev nD) (d) : (dats m ρ 0 c).before (0 : Fin 5) t0_0 d = xIn m ρ c := by
  unfold Dat.before; rw [if_pos (fetch0_0 t0_0)]; rfl
theorem before_1 (c : Dev nD) (d) : (dats m ρ 0 c).before (1 : Fin 5) t0_0 d = rIn m ρ c := by
  unfold Dat.before; rw [if_pos (fetch0_1 t0_0)]; rfl
theorem before_2 (c : Dev nD) (d) : (dats m ρ 0 c).before (2 : Fin 5) t0_0 d = w1In m ρ c := by
  unfold Dat.before; rw [if_pos (fetch0_2 t0_0)]; rfl
theorem before_3 (c : Dev nD) (d) : (dats m ρ 0 c).before (3 : Fin 5) t0_0 d = w2In m ρ c := by
  unfold Dat.before; rw [if_pos (fetch0_3 t0_0)]; rfl

theorem after_0 (c : Dev nD) (t) : (dats m ρ 0 c).after (0 : Fin 5) t = xIn m ρ c := by dsimp only [dats]
theorem after_1 (c : Dev nD) (t) : (dats m ρ 0 c).after (1 : Fin 5) t = rIn m ρ c := by dsimp only [dats]
theorem after_2 (c : Dev nD) (t) : (dats m ρ 0 c).after (2 : Fin 5) t = w1In m ρ c := by dsimp only [dats]
theorem after_3 (c : Dev nD) (t) : (dats m ρ 0 c).after (3 : Fin 5) t = w2In m ρ c := by dsimp only [dats]
theorem after_4 (c : Dev nD) (t) : (dats m ρ 0 c).after (4 : Fin 5) t = outAt m ρ c := by dsimp only [dats]

def obligationPre (c : Dev nD) : sProp 𝕄 :=
  iprop(before m ρ c ∗ (dats m ρ 0 c).owesAt () t0_0.castSucc
    ∗ (∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ (∃ d, stg c cc0_stg4_0 ((dats m ρ 0 c).before (4 : Fin 5) t0_0 d)))
def obligationPost (c : Dev nD) : sProp 𝕄 :=
  iprop(done c ∗ (dats m ρ 0 c).owesAt () t0_0.succ ∗ stg c cc0_stg0_0 (xIn m ρ c) ∗ stg c cc0_stg1_0 (rIn m ρ c)
    ∗ stg c cc0_stg2_0 (w1In m ρ c) ∗ stg c cc0_stg3_0 (w2In m ρ c) ∗ stg c cc0_stg4_0 (outAt m ρ c))

set_option maxRecDepth 8000 in
/-- The body does what the pipeline asks of it at its one grid point. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  rw [after_0, after_1, after_2, after_3, after_4]
  show obligationPre m ρ c ⊢ wp frame (wpE (defs₀ (F := F)) 𝒱₀ (c : Thread nD τ) none) Set.univ
    (cc0_body xM (Memref.isWhole_whole _) rM (Memref.isWhole_whole _) w1M (Memref.isWhole_whole _) w2M (Memref.isWhole_whole _)
      oM (Memref.isWhole_whole _) rOtherM (Memref.isWhole_whole _) tokM (Memref.isWhole_whole _) cOutM (Memref.isWhole_whole _)
      cInM (Memref.isWhole_whole _) cSwapM (Memref.isWhole_whole _) oMineM (Memref.isWhole_whole _) oSwapM (Memref.isWhole_whole _)
      cc0_scratch7 cc0_scratch8) (fun _ => obligationPost m ρ c)
  unfold obligationPre before begins
  iintro ⟨⟨⟨⟨%K, Hg⟩, Hcr, Hlev⟩, Hscr⟩, Ho, ⟨%d0, %g0, %e0, Hx⟩, ⟨%d1, %g1, %e1, Hr⟩, ⟨%d2, %g2, %e2, Hw1⟩, ⟨%d3, %g3, %e3, Hw2⟩, ⟨%d4, %g4, %e4, Hout⟩⟩
  rw [before_0] at e0; rw [before_1] at e1; rw [before_2] at e2; rw [before_3] at e3
  subst e0 e1 e2 e3
  unfold Dat.owesAt Pipeline.owesWithin
  icases Ho with ⟨%W, -, HO⟩
  iapply (body_sound m ρ K c fun _ => obligationPost m ρ c)
  isplitl [Hg Hcr Hlev Hscr Hx Hr Hw1 Hw2 Hout HO]
  · isplitl [Hg]; · iexact Hg
    isplitl [Hcr]; · iexact Hcr
    isplitl [Hlev]; · iexact Hlev
    isplitl [Hscr]; · iexact Hscr
    isplitl [HO]; · unfold owesNow; iexists W; iexact HO
    isplitl [Hx]; · iexact Hx
    isplitl [Hr]; · iexact Hr
    isplitl [Hw1]; · iexact Hw1
    isplitl [Hw2]; · iexact Hw2
    iexists g4; iexact Hout
  · unfold bodyPost obligationPost owesNow Dat.owesAt Pipeline.owesWithin
    iintro ⟨Hd, ⟨%W', HO⟩, Hx, Hr, Hw1, Hw2, ⟨%f, Hout⟩⟩
    isplitl [Hd]; · iexact Hd
    isplitl [HO]
    · iexists W'
      isplitr; · ipureintro; exact fun _ _ => Or.inl trivial
      iexact HO
    isplitl [Hx]; · iexists _; isplitr; · (ipureintro; rfl)
                    iexact Hx
    isplitl [Hr]; · iexists _; isplitr; · (ipureintro; rfl)
                    iexact Hr
    isplitl [Hw1]; · iexists _; isplitr; · (ipureintro; rfl)
                     iexact Hw1
    isplitl [Hw2]; · iexists _; isplitr; · (ipureintro; rfl)
                     iexact Hw2
    iexists _; isplitr; · (ipureintro; exact outOver_base m ρ c f (xIn m ρ c))
    iexact Hout

end Body

end Cert.KernelIdeal.Moe

end
-- ==== Proof.Run.lean ====
/-
The launch: every semaphore's invariant allocated, the tokens dealt to the devices that spend them, the credit each device
starts with, and the run of the whole mesh.
-/
module

public import proofs.«01_k».proof.Proof.Body
public import Idealize.ShloMosaic.Lib.Pipeline.CollectiveSegs

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UAll ℕ

variable (m : (ℓ : Loc nD τ sig) → Buf (Elt F) ℓ) (ρ : Dev nD → PrngReg)

theorem ownSemFacts : Pipeline.OwnSemFacts cfg0.spec ownS := by decide
theorem share_full (c : Dev nD) (w : Fin cfg0.W) : (dats m ρ 0 c).share w = fullShare := by unfold Dat.share; split <;> rfl

/-! ## The ghost state at launch -/

abbrev cellOfPair (p : Dev nD × Fin 11) : GSem nD τ sig := cell p.1 p.2
theorem cellOfPair_injective : Function.Injective cellOfPair := fun p q h =>
  Prod.ext (cell_inj.mp h).1 (cell_inj.mp h).2
def moeCells : Finset (GSem nD τ sig) := Finset.univ.map ⟨cellOfPair, cellOfPair_injective⟩

/-- The duty tokens minted on one device's semaphores: the barrier's second name apart, one for each of the eleven. -/
abbrev tokenOf (p : Dev nD × Option (Fin 11)) : GSem nD τ sig × ℕ × Bool := match p.2 with
  | none => (cell p.1 0, 0, true)
  | some j => (cell p.1 j, 0, false)
theorem tokenOf_injective : Function.Injective tokenOf := by
  rintro ⟨c, i⟩ ⟨d, j⟩ h
  match i, j, h with
  | none, none, h => exact congrArg (·, none) (cell_inj.mp (congrArg Prod.fst h)).1
  | none, some _, h => exact absurd (congrArg (fun t : GSem nD τ sig × ℕ × Bool => t.2.2) h).symm Bool.false_ne_true
  | some _, none, h => exact absurd (congrArg (fun t : GSem nD τ sig × ℕ × Bool => t.2.2) h) Bool.false_ne_true
  | some _, some _, h =>
    exact Prod.ext (cell_inj.mp (congrArg Prod.fst h)).1 (congrArg some (cell_inj.mp (congrArg Prod.fst h)).2)
def moeTokens : Finset (GSem nD τ sig × ℕ × Bool) := Finset.univ.map ⟨tokenOf, tokenOf_injective⟩

def u₀ : UAll := (initOf (Pipeline.cells cfgs cellOf_inj) (Pipeline.launchToks cfgs cellOf_inj), initOf moeCells moeTokens)

/-- The tokens of device `c`'s own semaphores. -/
def tokens (c : Dev nD) : sProp 𝕄 :=
  iprop(dutyTok EMoe (cell c 0) 0 false ∗ dutyTok EMoe (cell c 0) 0 true
    ∗ (bigSep Finset.univ fun k : Fin 5 => dutyTok EMoe (cell c (recvJ k)) 0 false)
    ∗ bigSep Finset.univ fun k : Fin 5 => dutyTok EMoe (cell c (sendJ k)) 0 false)

/-- What the launch deals device `c`, and what the step across all devices makes of it. -/
def dealt (c : Dev nD) : sProp 𝕄 :=
  iprop((bigSep Finset.univ fun j : Fin 11 => roundState EMoe (rounds m ρ) (cell c j) 0)
    ∗ (bigSep Finset.univ fun j : Fin 11 => iprop(atPos EMoe (cell c j) 0 ∅ 0 ∗ reached EMoe (cell c j) 0)) ∗ tokens c)
def shared (c : Dev nD) : sProp 𝕄 := iprop(∃ K, ghost m ρ K c)

theorem bigSep_tokens (Φ : Option (Fin 11) → sProp 𝕄) :
    bigSep Finset.univ Φ ⊢ iprop(Φ (some 0) ∗ Φ none ∗ (bigSep Finset.univ fun k : Fin 5 => Φ (some (recvJ k)))
      ∗ bigSep Finset.univ fun k : Fin 5 => Φ (some (sendJ k))) := by
  rw [bigSep_univ_eq_bigSepL [none, some 0, some 1, some 2, some 3, some 4, some 5, some 6, some 7, some 8, some 9, some 10] (by decide) (by decide) Φ,
    bigSep_five, bigSep_five]
  show iprop(Φ none ∗ Φ (some 0) ∗ Φ (some 1) ∗ Φ (some 2) ∗ Φ (some 3) ∗ Φ (some 4) ∗ Φ (some 5) ∗ Φ (some 6) ∗ Φ (some 7) ∗ Φ (some 8) ∗ Φ (some 9)
      ∗ Φ (some 10))
    ⊢ iprop(Φ (some 0) ∗ Φ none ∗ (Φ (some 6) ∗ Φ (some 7) ∗ Φ (some 8) ∗ Φ (some 9) ∗ Φ (some 10))
      ∗ Φ (some 1) ∗ Φ (some 2) ∗ Φ (some 3) ∗ Φ (some 4) ∗ Φ (some 5))
  iintro ⟨H, H0, H1, H2, H3, H4, H5, H6, H7, H8, H9, H10⟩
  isplitl [H0]; · iexact H0
  isplitl [H]; · iexact H
  isplitl [H6 H7 H8 H9 H10]
  · isplitl [H6]; · iexact H6
    isplitl [H7]; · iexact H7
    isplitl [H8]; · iexact H8
    isplitl [H9] <;> iassumption
  isplitl [H1]; · iexact H1
  isplitl [H2]; · iexact H2
  isplitl [H3]; · iexact H3
  isplitl [H4] <;> iassumption

theorem fund_moe : BI.own (EMoe (initOf moeCells moeTokens)) ⊢ (|==> bigSep Finset.univ (dealt m ρ) : sProp 𝕄) := by
  have hX (Φ : GSem nD τ sig → sProp 𝕄) : bigSep moeCells Φ = bigSep Finset.univ fun c : Dev nD => bigSep Finset.univ fun j : Fin 11 => Φ (cell c j) := by
    unfold moeCells; rw [bigSep_map, bigSep_univ_prod]; rfl
  have hT : bigSep moeTokens (fun x => (dutyTok EMoe x.1 x.2.1 x.2.2 : sProp 𝕄)) ⊢ bigSep Finset.univ fun c : Dev nD => tokens c := by
    unfold moeTokens; rw [bigSep_map, bigSep_univ_prod]
    exact bigSep_mono fun c _ => bigSep_tokens fun i => dutyTok EMoe (tokenOf (c, i)).1 (tokenOf (c, i)).2.1 (tokenOf (c, i)).2.2
  iintro HX
  imod (Rounds.fund EMoe (rounds m ρ) moeCells moeTokens) $$ HX with ⟨Hst, Hr, Hat, Htok⟩
  imodintro
  ihave Hst' := (Entails.of_eq (hX fun g => roundState EMoe (rounds m ρ) g 0)) $$ Hst
  ihave Hat' := (Entails.of_eq (hX fun g => atPos EMoe g 0 ∅ 0)) $$ Hat
  ihave Hr' := (Entails.of_eq (hX fun g => reached EMoe g 0)) $$ Hr
  ihave Htok' := hT $$ Htok
  unfold dealt; simp only [bigSep_sep']
  isplitl [Hst']; · iexact Hst'
  isplitl [Hat' Hr']
  · isplitl [Hat'] <;> iassumption
  iexact Htok'

/-! ## The counters -/

theorem ownSems_eq (c : Dev nD) : (Pipeline.ownSems0 (Ix := Unit) (Name := ℕ) (U := UAll) (Lvl := ℕ) (Val := Elt F) (τ := τ) ownS c : sProp 𝕄)
    = iprop(semVal (cell c 1) 0 ∗ semVal (cell c 2) 0 ∗ semVal (cell c 3) 0 ∗ semVal (cell c 4) 0 ∗ semVal (cell c 5) 0
      ∗ semVal (cell c 6) 0 ∗ semVal (cell c 7) 0 ∗ semVal (cell c 8) 0 ∗ semVal (cell c 9) 0 ∗ semVal (cell c 10) 0) := by
  rw [Pipeline.ownSems0_eq_of_list c ownS [0, 1, 2, 3, 4, 5, 6, 7, 8, 9] (by decide) (by decide)]; rfl
theorem barrierSem_eq (c : Dev nD) : (unscopedSems0 c : sProp 𝕄) = semVal (cell c 0) 0 := by
  unfold unscopedSems0; rw [bigSep_eq_bigSepL_of_eq [SemLoc.reg barS] (by decide) (by decide)]; rfl
theorem closed_eq (c : Dev nD) : closed (F := F) c
    = iprop(unscopedSems0 c ∗ Pipeline.ownSems0 (Ix := Unit) (Name := ℕ) (U := UAll) (Lvl := ℕ) (Val := Elt F) (τ := τ) ownS c) := by
  unfold closed; rw [bigSep_eleven, ownSems_eq, barrierSem_eq]

theorem allocate (c : Dev nD) :
    iprop(Pipeline.ownSems0 (Ix := Unit) (Name := ℕ) (U := UAll) (Lvl := ℕ) (Val := Elt F) (τ := τ) ownS c ∗ unscopedSems0 c ∗ dealt m ρ c)
      ⊢ |={Set.univ}=> iprop((bigSep Finset.univ fun j => iprop(∃ κ : ℕ, cellInv EMoe (rounds m ρ) κ (cell c j)))
          ∗ (bigSep Finset.univ fun j => iprop(atPos EMoe (cell c j) 0 ∅ 0 ∗ reached EMoe (cell c j) 0)) ∗ tokens c) := by
  have h : iprop((bigSep Finset.univ fun j : Fin 11 => semVal (cell c j) 0) ∗ bigSep Finset.univ fun j : Fin 11 => roundState EMoe (rounds m ρ) (cell c j) 0)
      ⊢ (|={Set.univ}=> bigSep Finset.univ fun j => iprop(∃ κ : ℕ, cellInv EMoe (rounds m ρ) κ (cell c j)) : sProp 𝕄) := by
    rw [← bigSep_sep']
    exact (bigSep_mono fun j _ => (Rounds.body_intro EMoe (rounds m ρ) (cell c j)).trans inv_alloc).trans (bigSep_fupd _ _)
  unfold dealt
  iintro ⟨Hos, Hus, Hst, Hat, Htok⟩
  ihave Hv := (Entails.of_eq (closed_eq (F := F) c).symm) $$ [Hos Hus]
  · isplitl [Hus] <;> iassumption
  unfold closed
  imod h $$ [Hv Hst] with Hinv
  · isplitl [Hv] <;> iassumption
  imodintro
  isplitl [Hinv]; · iexact Hinv
  isplitl [Hat]; · iexact Hat
  iexact Htok

/-! ## Dealing the tokens to the devices that spend them -/

theorem deal (Φ : Dev nD → Fin 5 → sProp 𝕄) :
    (bigSep Finset.univ fun c : Dev nD => bigSep Finset.univ fun k : Fin 5 => Φ c k)
      = bigSep Finset.univ fun c : Dev nD => bigSep Finset.univ fun k : Fin 5 => Φ (peer k c) k := by
  simp only [bigSep_five, bigSep_sep']
  rw [bigSep_univ_equiv (peerEquiv 0) (fun c => Φ c 0), bigSep_univ_equiv (peerEquiv 1) (fun c => Φ c 1), bigSep_univ_equiv (peerEquiv 2) (fun c => Φ c 2),
    bigSep_univ_equiv (peerEquiv 3) (fun c => Φ c 3), bigSep_univ_equiv (peerEquiv 4) (fun c => Φ c 4)]
  rfl

theorem deal_tokens : (bigSep Finset.univ fun c : Dev nD => (tokens c : sProp 𝕄)) ⊢ bigSep Finset.univ fun c : Dev nD => payTokens c := by
  unfold tokens payTokens
  rw [bigSep_sep', bigSep_sep', bigSep_sep', bigSep_sep', bigSep_sep', bigSep_sep', deal fun c k => (dutyTok EMoe (cell c (recvJ k)) 0 false : sProp 𝕄),
    bigSep_univ_equiv (peerEquiv 0) (fun c : Dev nD => (dutyTok EMoe (cell c 0) 0 false : sProp 𝕄)),
    bigSep_univ_equiv (peerEquiv 3) (fun c : Dev nD => (dutyTok EMoe (cell c 0) 0 true : sProp 𝕄))]
  exact Entails.of_eq rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem shared_intro (K : Dev nD × Fin 11 → ℕ) (c : Dev nD) : iprop(records m ρ K ∗ positions c 0 ∗ payTokens c) ⊢ shared m ρ c := by
  unfold shared ghost
  iintro H
  iexists K
  iexact H

theorem regroup :
    (bigSep Finset.univ fun c : Dev nD => iprop((bigSep Finset.univ fun j => iprop(∃ κ : ℕ, cellInv EMoe (rounds m ρ) κ (cell c j)))
          ∗ (bigSep Finset.univ fun j => iprop(atPos EMoe (cell c j) 0 ∅ 0 ∗ reached EMoe (cell c j) 0)) ∗ tokens c) : sProp 𝕄)
      ⊢ bigSep Finset.univ (shared m ρ) := by
  rw [bigSep_sep', bigSep_sep', ← bigSep_univ_prod (fun p : Dev nD × Fin 11 => iprop(∃ κ : ℕ, cellInv EMoe (rounds m ρ) κ (cell p.1 p.2))),
    bigSep_congr (s := Finset.univ) (fun (c : Dev nD) _ => bigSep_sep' Finset.univ (fun j : Fin 11 => (atPos EMoe (cell c j) 0 ∅ 0 : sProp 𝕄)) (fun j => reached EMoe (cell c j) 0)),
    bigSep_sep', ← bigSep_univ_prod (fun p : Dev nD × Fin 11 => (reached EMoe (cell p.1 p.2) 0 : sProp 𝕄))]
  iintro ⟨HI, ⟨Hat, #HR⟩, Htok⟩
  ihave HK := (BI.bigSep_exists_pi Finset.univ (fun (p : Dev nD × Fin 11) (κ : ℕ) => (cellInv EMoe (rounds m ρ) κ (cell p.1 p.2) : sProp 𝕄))) $$ HI
  icases HK with ⟨%K, #HI⟩
  ihave Htk := (deal_tokens (F := F)) $$ Htok
  iapply (with_persistent (R := records m ρ K) fun c _ => shared_intro m ρ K c)
  isplitr
  · unfold records; isplitl; · iexact HI
    iexact HR
  · iapply (Entails.of_eq (bigSep_sep' Finset.univ (fun c : Dev nD => (positions c 0 : sProp 𝕄)) payTokens).symm)
    isplitl [Hat]; · unfold positions; iexact Hat
    iexact Htk

theorem across : (bigSep Finset.univ fun c => iprop(Pipeline.ownSems0 (Ix := Unit) (Name := ℕ) (U := UAll) (Lvl := ℕ) (Val := Elt F) (τ := τ) ownS c ∗ unscopedSems0 c ∗ dealt m ρ c) : sProp 𝕄)
    ⊢ |={Set.univ}=> bigSep Finset.univ (shared m ρ) :=
  ((bigSep_mono fun c _ => allocate m ρ c).trans (bigSep_fupd _ _)).trans (BI.fupd_mono (regroup m ρ))

/-! ## The credit each device starts with -/

/-- The whole mesh owes semaphore `j` of device `c` exactly what `c` waits for there: two units on the barrier, -/
theorem owed_bar (c : Dev nD) : ∑ d : Dev nD, owing (todo d) (cell c 0) () = 2 := by
  rw [Finset.sum_congr rfl fun d _ => owing_apply (todo d) c 0]
  revert c; decide
/-- and the transfer's units on a receive side. -/
theorem owed_recv (c : Dev nD) (k : Fin 5) : ∑ d : Dev nD, owing (todo d) (cell c (recvJ k)) () = units (recvJ k) := by
  rw [Finset.sum_congr rfl fun d _ => owing_apply (todo d) c (recvJ k)]
  generalize units (recvJ k) = u
  have h : ∀ d : Dev nD, ((todo d).map fun p => if p.1 = c ∧ p.2 = recvJ k then u else 0).sum = if d = peer k c then u else 0 := by
    intro d
    unfold todo
    simp only [← peer_eq_iff]
    fin_cases k <;> simp [recvJ]
  rw [Finset.sum_congr rfl fun d _ => h d, Finset.sum_ite_eq' Finset.univ (peer k c) fun _ => u, if_pos (Finset.mem_univ _)]

theorem launch_at (c : Dev nD) (j : Fin 11) {n : ℕ} (h : ∑ d : Dev nD, owing (todo d) (cell c j) () = n) :
    tallyOn (cell c j) (launchCredit (Pipeline.owing fun d => owing (todo d)) 0 (cell c j)) = (tallyAt (cell c j) () n : CellTallies nD τ sig Unit) := by
  unfold tallyAt; refine congrArg _ (Finsupp.ext fun u => ?_); cases u
  rw [Pipeline.launchCredit_owing, Finsupp.single_eq_same, h]

theorem credits_intro (c : Dev nD) : (Pipeline.launchCred (fun d => owing (todo d)) c : sProp 𝕄) ⊢ credits c := by
  have h : (Pipeline.launchCred (fun d => owing (todo d)) c : sProp 𝕄)
      ⊢ bigSep Finset.univ fun j : Fin 11 => cred (tallyOn (cell c j) (launchCredit (Pipeline.owing fun d => owing (todo d)) 0 (cell c j))) := by
    unfold Pipeline.launchCred
    refine (bigSep_subset (Finset.subset_univ (Finset.univ.map ⟨semAt, semAt_injective⟩))).trans ?_
    rw [bigSep_map]
    exact Entails.refl (M := 𝕄) _
  refine h.trans ?_
  unfold credits
  rw [bigSep_eleven, bigSep_five, launch_at c 0 (owed_bar c), launch_at c 6 (owed_recv c 0), launch_at c 7 (owed_recv c 1), launch_at c 8 (owed_recv c 2),
    launch_at c 9 (owed_recv c 3), launch_at c 10 (owed_recv c 4)]
  iintro ⟨H0, -, -, -, -, -, H6, H7, H8, H9, H10⟩
  isplitl [H0]; · iexact H0
  isplitl [H6]; · iexact H6
  isplitl [H7]; · iexact H7
  isplitl [H8]; · iexact H8
  isplitl [H9] <;> iassumption

/-! ## The run -/

theorem begins_intro (c : Dev nD) :
    iprop(Pipeline.unscopedRestP Pipeline.Prefetch.none cfg0.spec c (fun b => m ((c : Thread nD τ).loc b)) ∗ levAts lvlSet lvl
        ∗ Pipeline.launchCred (fun d => owing (todo d)) c ∗ prngReg c (ρ c) ∗ shared m ρ c)
      ⊢ |={Set.univ}=> iprop(begins m ρ c ∗ emp) := by
  iintro ⟨-, Hlev, Hcr, -, HG⟩
  ihave Hc := (credits_intro (F := F) c) $$ Hcr
  imodintro
  unfold begins shared
  isplitl
  · isplitl [HG]; · iexact HG
    isplitl [Hc] <;> iassumption
  · iempintro

theorem enter (c : Dev nD) :
    iprop(begins m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before scratch
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 ownS c ∗ Pipeline.scopedRest cfg0.spec c) := by
  rw [show (dats m ρ 0 c).Φ (Fin.last cfg0.N) = done c from rfl, scopedRest0_eq]
  unfold done
  rw [closed_eq]
  unfold scratch
  iintro ⟨Hr, Hu, Ho⟩
  isplitl [Hu]; · iexact Hu
  isplitl [Ho]; · iexact Ho
  iexact Hr

theorem mayWait_stage (c : Dev nD) (q : DmaSem sig) (hq : (nameOf (.dma q)).elim 0 levelOf = 0) (O : CellTallies nD τ sig Unit)
    (hO : O = owing (todo c) ∨ O = 0) : (levAts lvlSet lvl : sProp 𝕄) ⊢ MayWait (c : Thread nD τ) (.dma q) () O := by
  rcases hO with rfl | rfl
  · refine mayWait_of_below c (.dma q) (todo c) fun p hp => ?_
    rw [hq]
    have h : p.2 ∈ (todo c).map Prod.snd := List.mem_map_of_mem hp
    exact (by decide : ∀ j ∈ ([0, 0, 6, 7, 8, 9, 10] : List (Fin 11)), 0 < levelOf j) p.2 h
  · rw [MayWait_zero]; iintro -; iempintro

theorem waits (c : Dev nD) : (levAts lvlSet lvl : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- An array of device `c` after the run. -/
def final (c : Dev nD) (w : Fin cfg0.W) : Buf (Elt F) ((cfg0.win w).arr.view.loc (c : Thread nD τ)) := (dats m ρ 0 c).arrAt w cfg0.N

def Finals : PUnit × MemSt nD τ sig (Elt F) → Prop := fun r =>
  ∀ c : Dev nD, ∀ w : Fin cfg0.W, r.2.mem ((cfg0.win w).arr.view.loc (c : Thread nD τ)) = final m ρ c w

set_option maxRecDepth 8000 in
/-- From any memory with zero counters, every weakly fair execution of the kernel on the mesh terminates, with every array at
    its final contents and every counter at zero. -/
theorem run_main : θ_run defs (onTc (τ := τ) (main (F := F))) (start₀ m ρ) (fun r => Finals m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EStage defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := fun d => owing (todo d)) (howed₀ := fun _ => rfl) (howedN := fun _ => rfl)
    (L := lvlSet) (lv := lvl) (hL := lvlSet_of_ne) (hwaits := waits m ρ)
    (G := dealt m ρ) (G' := shared m ρ) (u₀ := u₀)
    (hu₀ := by
      unfold u₀
      iintro Hu
      ihave H := (ownU_pair _ _) $$ Hu
      icases H with ⟨HP, HX⟩
      imod (fund_moe m ρ) $$ HX with HG
      imodintro
      isplitl [HP] <;> iassumption)
    (hglob := across m ρ)
    (hA := fun _ _ => rfl) (hpf := fun _ k => k.elim0)
    (X := begins m ρ) (Y := fun c => unscopedSems0 c) (Z := fun _ => iprop(emp))
    (hX := begins_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the run leaves -/

theorem final_kept (c : Dev nD) (w : Fin cfg0.W) (h : (cfg0.win w).flush (0 : Fin 1) = false) :
    final m ρ c w = (start₀ m ρ).mem ((cfg0.win w).arr.view.loc (c : Thread nD τ)) := by
  unfold final
  rw [show cfg0.N = ((0 : Fin 1) : Fin cfg0.N).val + 1 from rfl, (dats m ρ 0 c).arrAt_succ w (0 : Fin 1), h]
  rfl

theorem final_result (c : Dev nD) : (win0_4.blk (0 : Fin 1)).view.read (Elt F) (final m ρ c (4 : Fin 5)) = outAt m ρ c := by
  unfold final
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact (View.read_write_univ _ _).trans (by dsimp only [dats, Dat.flushed]; rfl)

/-- The run, read at the arguments and at the result. -/
theorem run : θ_run defs (onTc (τ := τ) (main (F := F))) (start₀ m ρ) (fun r =>
    (∀ c : Dev nD, (win0_4.blk (0 : Fin 1)).view.read (Elt F) (r.2.mem ((c : Thread nD τ).loc main_v1)) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c =>
    ⟨(congrArg (fun b => (win0_4.blk (0 : Fin 1)).view.read (Elt F) b) (h.1 c (4 : Fin 5))).trans (final_result m ρ c),
      (h.1 c (0 : Fin 5)).trans (final_kept m ρ c (0 : Fin 5) (by decide)), (h.1 c (1 : Fin 5)).trans (final_kept m ρ c (1 : Fin 5) (by decide)),
      (h.1 c (2 : Fin 5)).trans (final_kept m ρ c (2 : Fin 5) (by decide)), (h.1 c (3 : Fin 5)).trans (final_kept m ρ c (3 : Fin 5) (by decide))⟩, h.2⟩)
    (run_main m ρ)

end Cert.KernelIdeal.Moe

end
-- ==== Proof.Rows.lean ====
/-
  One token's weights, over the extended reals: how the kernel weighs an expert from the four gates of a row (`share`),
  how the reference weighs it from the two greatest of them in order (`chosen`), and that the two agree on a row whose
  largest gate is finite and whose three greatest gates differ (`share_eq_chosen`). The kernel's weight does not depend on the
  order in which the gates are listed (`share_comp`), which is what lets each device list its own two experts first.
-/
module

public import Idealize.ShloMosaic.PureOps.Ideal.Laws
public import Idealize.ShloMosaic.Lib.IdealHost
public import Idealize.ShloMosaic.Lib.SortFacts

@[expose] public section

noncomputable section

namespace Cert.Moe

open Idealize.ShloMosaic
open scoped BigOperators

theorem ofBits_negInf : Ideal.ofBits .f32 0xFF800000#32 = (⊥ : EReal) := by simp [Ideal.ofBits, Ideal.ieee]
theorem ofBits_posInf : Ideal.ofBits .f32 0x7F800000#32 = (⊤ : EReal) := by simp [Ideal.ofBits, Ideal.ieee]

/-! ## The kernel's weight -/

/-- The greatest of the gates; -/
def best {n : ℕ} (g : Fin n → EReal) : EReal := Finset.univ.fold max ⊥ g
/-- the gates with the greatest taken out; -/
def below (g : Fin 4 → EReal) (e : Fin 4) : EReal := if g e < best g then g e else ⊥
/-- an expert's part: the exponential of its distance from the greatest gate, if it is among the two greatest; -/
def part (g : Fin 4 → EReal) (e : Fin 4) : EReal := if best (below g) ≤ g e then Ideal.exp (g e - best g) else 0
/-- and its weight: its part of the sum. -/
def share (g : Fin 4 → EReal) (e : Fin 4) : EReal := Ideal.div (part g e) (∑ k, part g k)

theorem best_eq_sup {n : ℕ} (g : Fin n → EReal) : best g = Finset.univ.sup g := rfl

theorem best_comp {n : ℕ} (g : Fin n → EReal) (σ : Fin n ≃ Fin n) : best (g ∘ σ) = best g := by
  rw [best_eq_sup, best_eq_sup]
  refine le_antisymm (Finset.sup_le fun k _ => Finset.le_sup (f := g) (Finset.mem_univ (σ k))) (Finset.sup_le fun k _ => ?_)
  have h := Finset.le_sup (f := g ∘ σ) (Finset.mem_univ (σ.symm k))
  simpa using h

theorem best_eq_of {n : ℕ} (g : Fin n → EReal) (k : Fin n) (h : ∀ e, g e ≤ g k) : best g = g k :=
  (best_eq_sup g).trans (le_antisymm (Finset.sup_le fun e _ => h e) (Finset.le_sup (Finset.mem_univ k)))

theorem below_comp (g : Fin 4 → EReal) (σ : Fin 4 ≃ Fin 4) : below (g ∘ σ) = below g ∘ σ := by
  funext e; unfold below; rw [best_comp]; rfl

theorem part_comp (g : Fin 4 → EReal) (σ : Fin 4 ≃ Fin 4) : part (g ∘ σ) = part g ∘ σ := by
  funext e; unfold part; rw [below_comp, best_comp, best_comp]; rfl

/-- The order in which the gates are listed does not matter. -/
theorem share_comp (g : Fin 4 → EReal) (σ : Fin 4 ≃ Fin 4) (e : Fin 4) : share (g ∘ σ) e = share g (σ e) := by
  unfold share; rw [part_comp]
  exact congrArg (Ideal.div (part g (σ e))) (Equiv.sum_comp σ (part g))

/-! ## The reference's weight -/

/-- Of `n` gates in order the exponential of the `k`th's distance from the greatest; -/
def rise {n : ℕ} (v : Fin n → EReal) (k : Fin n) : EReal := Ideal.exp (v k - best v)
/-- its part of the sum; -/
def soft {n : ℕ} (v : Fin n → EReal) (k : Fin n) : EReal := Ideal.div (rise v k) (∑ j, rise v j)
/-- and an expert's weight: that of the place of the first two it holds. -/
def chosen (g : Fin 4 → EReal) (π : Fin 4 → Fin 4) (e : Fin 4) : EReal :=
  ∑ k : Fin 2, if π (k.castLE (by decide)) = e then soft (fun j : Fin 2 => g (π (j.castLE (by decide)))) k else 0

/-- The order in which `lax.top_k` lists a row's gates. -/
def order (g : Fin 4 → EReal) : Fin 4 → Fin 4 := sortedFrom fun k k' => decide (g k' < g k)

theorem order_injective (g : Fin 4 → EReal) : Function.Injective (order g) := sortedFrom_injective _

theorem order_le (g : Fin 4 → EReal) {i j : Fin 4} (h : i < j) : g (order g j) ≤ g (order g i) := by
  have := sortedFrom_noInversion (fun k k' => decide (g k' < g k)) (fun k k' => decide (g k' < g k))
    (fun a b hab => by simpa using (of_decide_eq_true hab).le) (fun a b hab => hab)
    (fun a b c hab hbc => by
      simp only [decide_eq_false_iff_not, not_lt] at hab hbc ⊢
      exact hab.trans hbc) i j h
  exact not_lt.mp (of_decide_eq_false this)

/-- `order` as a permutation. -/
def orderEquiv (g : Fin 4 → EReal) : Fin 4 ≃ Fin 4 := Equiv.ofBijective (order g) (Finite.injective_iff_bijective.mp (order_injective g))

/-! ## The two agree -/

theorem exp_zero : Ideal.exp 0 = 1 := by
  show ((Real.exp 0 : ℝ) : EReal) = 1
  rw [Real.exp_zero]; rfl

theorem exp_nonneg (x : EReal) : 0 ≤ Ideal.exp x := by
  induction x with
  | bot => exact le_refl _
  | coe r => exact EReal.coe_nonneg.mpr (Real.exp_pos r).le
  | top => exact le_top

/-- The kernel's weights of four gates in order, the greatest finite and the first three different. -/
theorem share_sorted (v : Fin 4 → EReal) (hfin : v 0 < ⊤) (h01 : v 1 < v 0) (h12 : v 2 < v 1) (h23 : v 3 ≤ v 2) (e : Fin 4) :
    share v e = if h : e.val < 2 then soft (fun j : Fin 2 => v (j.castLE (by decide))) ⟨e.val, h⟩ else 0 := by
  have hb : best v = v 0 := best_eq_of v 0 fun e => by
    fin_cases e
    · exact le_refl _
    · exact h01.le
    · exact (h12.trans h01).le
    · exact (h23.trans (h12.trans h01).le)
  have hb2 : best (fun j : Fin 2 => v (j.castLE (by decide))) = v 0 :=
    best_eq_of (fun j : Fin 2 => v (j.castLE (by decide))) 0 fun e => by
      fin_cases e
      · exact le_refl _
      · exact h01.le
  have hlow : ∀ e, below v e = if e = 0 then ⊥ else v e := fun e => by
    unfold below; rw [hb]
    fin_cases e
    · exact if_neg (lt_irrefl _)
    · exact if_pos h01
    · exact if_pos (h12.trans h01)
    · exact if_pos (lt_of_le_of_lt h23 (h12.trans h01))
  have hs : best (below v) = v 1 := by
    have h1 : below v 1 = v 1 := hlow 1
    rw [← h1]
    refine best_eq_of _ 1 fun e => ?_
    rw [h1, hlow]
    fin_cases e
    · exact bot_le
    · exact le_refl _
    · exact h12.le
    · exact h23.trans h12.le
  have hp : ∀ e, part v e = if e.val < 2 then Ideal.exp (v e - v 0) else 0 := fun e => by
    unfold part; rw [hs, hb]
    fin_cases e
    · exact if_pos h01.le
    · exact if_pos (le_refl _)
    · exact if_neg (not_le.mpr h12)
    · exact if_neg (not_le.mpr (lt_of_le_of_lt h23 h12))
  have hsum : ∑ k, part v k = ∑ j : Fin 2, rise (fun j : Fin 2 => v (j.castLE (by decide))) j := by
    rw [Fin.sum_univ_four, Fin.sum_univ_two, hp 0, hp 1, hp 2, hp 3]
    unfold rise
    rw [hb2]
    show Ideal.exp (v 0 - v 0) + Ideal.exp (v 1 - v 0) + 0 + 0 = _
    rw [add_zero, add_zero]
    rfl
  have hne : ∑ j : Fin 2, rise (fun j : Fin 2 => v (j.castLE (by decide))) j ≠ 0 := by
    have h00 : v 0 - v 0 = 0 := EReal.sub_self hfin.ne (bot_lt_of_lt h01).ne'
    rw [Fin.sum_univ_two]
    unfold rise
    rw [hb2]
    show Ideal.exp (v 0 - v 0) + Ideal.exp (v 1 - v 0) ≠ 0
    rw [h00, exp_zero]
    have : (1 : EReal) ≤ 1 + Ideal.exp (v 1 - v 0) := le_add_of_nonneg_right (exp_nonneg _)
    exact (lt_of_lt_of_le zero_lt_one this).ne'
  unfold share
  rw [hsum, hp]
  by_cases h : e.val < 2
  · rw [if_pos h, dif_pos h]
    unfold soft rise
    rw [hb2]
    rfl
  · rw [if_neg h, dif_neg h]
    exact Ideal.zero_div hne

/-- On a row whose greatest gate is finite and whose three greatest gates differ, the kernel's weight of an expert is the
    reference's. -/
theorem share_eq_chosen (g : Fin 4 → EReal) (hfin : g (order g 0) < ⊤) (h01 : g (order g 1) < g (order g 0))
    (h12 : g (order g 2) < g (order g 1)) (e : Fin 4) : share g e = chosen g (order g) e := by
  obtain ⟨k, rfl⟩ := (orderEquiv g).surjective e
  rw [← share_comp g (orderEquiv g) k]
  rw [share_sorted (g ∘ orderEquiv g) hfin h01 h12 (order_le g (by decide)) k]
  unfold chosen
  have hk : ∀ j : Fin 2, (order g (j.castLE (by decide)) = orderEquiv g k) ↔ j.val = k.val := fun j =>
    ⟨fun h => congrArg Fin.val (order_injective g h), fun h => congrArg (order g) (Fin.ext h)⟩
  rw [Fin.sum_univ_two]
  simp only [hk]
  fin_cases k
  · exact (add_zero _).symm
  · exact (zero_add _).symm
  · exact (add_zero _).symm
  · exact (add_zero _).symm

end Cert.Moe

end
-- ==== Proof.Experts.lean ====
/-
  What two experts add to a half block of rows, read at one token and one column: each expert's answer for the token
  (`expert`) times the share that the token's four gates give it, the device's own two gates listed first (`gateRow`). The
  body says it in two wordings, which are one function (`experts'_eq`).
-/
module

public import proofs.«01_k».proof.Proof.Protocol
public import proofs.«01_k».proof.Proof.Rows
public import Idealize.ShloMosaic.Lib.Pointwise

@[expose] public section

noncomputable section

namespace Cert.KernelIdeal.Moe

open Idealize.ShloMosaic Cert.KernelIdeal Cert.KernelIdeal.Gen Cert.Moe
open scoped BigOperators

/-- A token's gates: the two of the device's own router block, then the two of its neighbour's. -/
def gateRow (t : Fin 512 → EReal) (r ro : Vec Ideal S512x2 .f32) (e : Fin 4) : EReal :=
  if h : e.val < 2 then ∑ p, t p * r (ix2 p ⟨e.val, h⟩) else ∑ p, t p * ro (ix2 p ⟨e.val - 2, by omega⟩)

/-- An expert's answer for a token, at column `l`. -/
def expert (t : Fin 512 → EReal) (a : Fin 512 → Fin 1024 → EReal) (b : Fin 1024 → Fin 512 → EReal) (l : Fin 512) : EReal :=
  ∑ q, max (∑ p, t p * a p q) 0 * b q l

/-- The greatest of each row, as the body spreads it. -/
abbrev bestCol (v : FVec Ideal S128x4 .f32) : FVec Ideal S128x1 .f32 :=
  shapeCast S128x1 (multiReduction .maximumf [1] S128 v 0xFF800000#32 reduces_S128x4_S128 (.inl rfl) rfl) shapeCasts_S128_S128x1

/-- The body's weights, of any four columns of gates. -/
def shares (v : FVec Ideal S128x4 .f32) : FVec Ideal S128x4 .f32 :=
  k0_pay9 v (bestCol v) (cmpf .olt v (broadcastTo S128x4 (bestCol v) broadcasts_S128x1_S128x4))

theorem shares_apply (v : FVec Ideal S128x4 .f32) (i : Fin 128) (e : Fin 4) : shares v (ix2 i e) = share (fun k => v (ix2 i k)) e := by
  pointwise [shares, bestCol, k0_pay9]
  rw [ofBits_negInf]
  rfl

theorem pay1_eq (r : Vec Ideal S512x2 .f32) : k0_pay1 r = r := by funext j; pointwise [k0_pay1]
theorem pay5_eq (t : Vec Ideal S128x512 .f32) : k0_pay5 t = t := by funext j; pointwise [k0_pay5]

theorem gates_apply (r ro : Vec Ideal S512x2 .f32) (t : Vec Ideal S128x512 .f32) (i : Fin 128) (e : Fin 4) :
    k0_pay6 (k0_pay1 r) ro t (ix2 i e) = gateRow (fun p => t (ix2 i p)) r ro e := by
  rw [pay1_eq]
  pointwise [k0_pay6, k0_pay5]
  rfl

/-- The body's second wording is its first. -/
theorem experts'_eq (r ro : Vec Ideal S512x2 .f32) (t : Vec Ideal S128x512 .f32) (a b : Vec Ideal S1x512x1024 .f32)
    (a' b' : Vec Ideal S1x1024x512 .f32) : experts' r ro t a b a' b' = experts r ro t a b a' b' := by
  have h : experts' r ro t a b a' b' = experts r ro (k0_pay5 t) a b a' b' := rfl
  rw [h, pay5_eq]

theorem pay2_apply (r ro : Vec Ideal S512x2 .f32) (t : Vec Ideal S128x512 .f32) (i : Fin 128) (e : Fin 4) :
    k0_pay2 r ro t (ix2 i e) = share (gateRow (fun p => t (ix2 i p)) r ro) e := by
  have h : k0_pay2 r ro (k0_pay5 t) = shares (k0_pay6 (k0_pay1 r) ro t) := rfl
  rw [pay5_eq] at h
  rw [h, shares_apply]
  exact congrArg (share · e) (funext fun k => gates_apply r ro t i k)

theorem experts_apply (r ro : Vec Ideal S512x2 .f32) (t : Vec Ideal S128x512 .f32) (a b : Vec Ideal S1x512x1024 .f32)
    (a' b' : Vec Ideal S1x1024x512 .f32) (i : Fin 128) (l : Fin 512) :
    experts r ro t a b a' b' (ix2 i l) =
      expert (fun p => t (ix2 i p)) (fun p q => a (ix3 0 p q)) (fun q l => a' (ix3 0 q l)) l
          * share (gateRow (fun p => t (ix2 i p)) r ro) 0
        + expert (fun p => t (ix2 i p)) (fun p q => b (ix3 0 p q)) (fun q l => b' (ix3 0 q l)) l
          * share (gateRow (fun p => t (ix2 i p)) r ro) 1 := by
  rw [← pay2_apply, ← pay2_apply]
  unfold experts k0_pay4 k0_pay3
  generalize k0_pay2 r ro t = w
  pointwise []
  rfl

end Cert.KernelIdeal.Moe

end
-- ==== Proof.TopRows.lean ====
/-
  The layer on whole arrays: a token's four gates (`gate`) and an expert's answer for it (`answer`).
  And `lax.top_k` of a table of four columns, read at one row: its `k`th value is the gate that stands `k`th in the row's
  order (`Cert.Moe.order`), and its `k`th index is that gate's column.
-/
module

public import proofs.«01_k».proof.Proof.Rows
public import Idealize.ShloMosaic.Lib.Pointwise

@[expose] public section

noncomputable section

namespace Cert.Moe

open Idealize.ShloMosaic
open scoped BigOperators

abbrev Table : Shape := ⟨2, ![512, 4]⟩
abbrev Tokens : Shape := ⟨2, ![512, 512]⟩
abbrev InWeights : Shape := ⟨3, ![4, 512, 1024]⟩
abbrev OutWeights : Shape := ⟨3, ![4, 1024, 512]⟩
abbrev Head (n : ℕ) : Shape := ⟨2, ![512, n]⟩

/-- The gates of a token. -/
def gate (x : FVec Ideal Tokens .f32) (r : FVec Ideal Table .f32) (i : Fin 512) (e : Fin 4) : EReal :=
  ∑ p : Fin 512, x (ix2 i p) * r (ix2 p e)

/-- Expert `e`'s answer for token `i`, at column `l`. -/
def answer (x : FVec Ideal Tokens .f32) (a : FVec Ideal InWeights .f32) (b : FVec Ideal OutWeights .f32) (i l : Fin 512)
    (e : Fin 4) : EReal :=
  ∑ q : Fin 1024, max (∑ p : Fin 512, x (ix2 i p) * a (ix3 e p q)) 0 * b (ix3 e q l)

/-- One row of a table. -/
abbrev row (G : FVec Ideal Table .f32) (i : Fin 512) : Fin 4 → EReal := fun e => G (ix2 i e)

theorem along_row (i : Fin 512) (e k : Fin 4) : (ix2 i e : Table.Idx).along 1 k = ix2 i k := by
  funext a; fin_cases a <;> rfl

/-- The sort behind `lax.top_k` puts at place `e` of row `i` what stands `e`th in the row's order. -/
theorem order_row (G : FVec Ideal Table .f32) (i : Fin 512) (e : Fin 4) :
    sortedFrom (fun k k' : Fin 4 => FloatOps.cmpfTotal .gt (G ((ix2 i e : Table.Idx).along 1 k)) (G ((ix2 i e : Table.Idx).along 1 k'))
      == 1#1) e = order (row G i) e := by
  unfold order
  congr 1
  funext k k'
  rw [along_row, along_row]
  show (BitVec.ofBool (decide (G (ix2 i k') < G (ix2 i k))) == 1#1) = decide (row G i k' < row G i k)
  by_cases h : G (ix2 i k') < G (ix2 i k)
  · simp only [row, h, decide_true]; rfl
  · simp only [row, h, decide_false]; rfl

variable {n : ℕ} (hn : n ≤ 4) (G : FVec Ideal Table .f32) (h : Table.Slices (fun _ => 0) (Head n)) (i : Fin 512) (k : Fin n)

/-- The place in the table of an element of its first columns. -/
abbrev headIdx (h : Table.Slices (fun _ => 0) (Head n)) (j : (Head n).Idx) : Table.Idx := fun a =>
  ⟨0 + (j (a.cast h.1.symm)).val, Nat.lt_of_lt_of_le (Nat.add_lt_add_left (j _).isLt _) (h.2 a)⟩

theorem headIdx_eq : headIdx h (ix2 i k) = ix2 i (k.castLE hn) := by
  funext a; fin_cases a <;> exact Fin.ext (Nat.zero_add _)

theorem topK_value : (Host.topK (Head n) 1 (FloatOps.cmpfTotal .gt) G h).1 (ix2 i k) = row G i (order (row G i) (k.castLE hn)) := by
  let f : Table.Idx → EReal := fun j => G (j.along 1 (sortedFrom (fun k k' : Fin 4 =>
    FloatOps.cmpfTotal .gt (G (j.along 1 k)) (G (j.along 1 k')) == 1#1) (j 1)))
  have h1 : (Host.topK (Head n) 1 (FloatOps.cmpfTotal .gt) G h).1 (ix2 i k) = f (headIdx h (ix2 i k)) := rfl
  rw [h1, headIdx_eq hn]
  exact (congrArg (fun p : Fin 4 => G ((ix2 i (k.castLE hn) : Table.Idx).along 1 p)) (order_row G i (k.castLE hn))).trans
    (congrArg G (along_row i _ _))

theorem topK_index : (Host.topK (Head n) 1 (FloatOps.cmpfTotal .gt) G h).2 (ix2 i k) = BitVec.ofNat 32 (order (row G i) (k.castLE hn)).val := by
  let f : Table.Idx → BitVec 32 := fun j => BitVec.ofNat 32 ((j.along 1 (sortedFrom (fun k k' : Fin 4 =>
    FloatOps.cmpfTotal .gt (G (j.along 1 k)) (G (j.along 1 k')) == 1#1) (j 1))) 1).val
  have h1 : (Host.topK (Head n) 1 (FloatOps.cmpfTotal .gt) G h).2 (ix2 i k) = f (headIdx h (ix2 i k)) := rfl
  rw [h1, headIdx_eq hn]
  exact (congrArg (fun p : Fin 4 => BitVec.ofNat 32 (((ix2 i (k.castLE hn) : Table.Idx).along 1 p) 1).val)
    (order_row G i (k.castLE hn))).trans (congrArg (fun j : Table.Idx => BitVec.ofNat 32 (j 1).val) (along_row i _ _))

end Cert.Moe

end
-- ==== Proof.KValue.lean ====
/-
  The kernel's result at one token and one column, in terms of the whole arrays of which each device holds its block
  (`out_apply`): over the four experts, each one's answer for the token times the share the token's gates give it. Of
  the four a device adds the two it holds (`pair`), on the half of its rows that it works on itself and on the half of its
  y neighbour's that it works on; the two pairs meet in the sum, and the halves of a block in the exchange across z.
-/
module

public import proofs.«01_k».proof.Proof.Run
public import proofs.«01_k».proof.Proof.Experts
public import proofs.«01_k».proof.Proof.TopRows
public import Idealize.ShloMosaic.Lib.Layout

@[expose] public section

noncomputable section

namespace Cert.KernelIdeal.Moe

open Idealize.ShloMosaic.TcCoe
open Idealize.ShloMosaic Idealize.SL.Sem Cert.KernelIdeal Cert.KernelIdeal.Gen Cert.Moe
open scoped BigOperators

/-! ## Whose rows and whose experts -/

/-- A device's place on the y axis, and the other place. -/
def yOf (c : Dev nD) : Fin 2 := ⟨c.val / 2 % 2, Nat.mod_lt _ (by decide)⟩
def flip (y : Fin 2) : Fin 2 := ⟨1 - y.val, by omega⟩

theorem yOf_yp (c : Dev nD) : yOf (yp c) = flip (yOf c) := by revert c; decide
theorem yOf_zn (c : Dev nD) : yOf (zn c) = yOf c := by revert c; decide
theorem yp_mod (c : Dev nD) : (yp c).val % 2 = c.val % 2 := by revert c; decide
theorem zn_mod (c : Dev nD) : (zn c).val % 2 = 1 - c.val % 2 := by revert c; decide

/-- Expert `e` of those at place `y`. -/
def nth (y e : Fin 2) : Fin 4 := ⟨2 * y.val + e.val, by omega⟩
/-- Row `a` of the block at place `y`. -/
def blockRow (y : Fin 2) (a : Fin 256) : Fin 512 := ⟨256 * y.val + a.val, by omega⟩
/-- Row `a` of the half that device `c` works on. -/
def halfRow (c : Dev nD) (a : Fin 128) : Fin 256 := ⟨128 * (c.val % 2) + a.val, by omega⟩

theorem halfRow_yp (c : Dev nD) (a : Fin 128) : halfRow (yp c) a = halfRow c a := by
  unfold halfRow
  simp only [yp_mod]

/-- The experts as a device at place `y` lists them: its own two first. -/
def listed (y : Fin 2) : Fin 4 ≃ Fin 4 := Equiv.addRight (nth y 0)

theorem listed_own (y : Fin 2) (e : Fin 4) (h : e.val < 2) : listed y e = nth y ⟨e.val, h⟩ := by revert y e; decide
theorem listed_other (y : Fin 2) (e : Fin 4) (h : ¬ e.val < 2) : listed y e = nth (flip y) ⟨e.val - 2, by omega⟩ := by revert y e; decide

/-! ## What the blocks hold -/

section Blocks

variable (X : FVec Ideal Tokens .f32) (R : FVec Ideal Table .f32) (A : FVec Ideal InWeights .f32) (B : FVec Ideal OutWeights .f32)
variable (m : (ℓ : Loc nD τ sig) → Buf (Elt Ideal) ℓ) (ρ : Dev nD → PrngReg)

/-- Every device holds its blocks of the four arrays. -/
def Holds : Prop := ∀ c : Dev nD,
  m ((c : Thread nD τ).loc main_arg0) = Layout.blockN ⟨2, ![256, 512]⟩ ⟨2, ![512, 512]⟩ (Layout.meshBlock [2, 2, 2] ![[1], []] c) X
  ∧ m ((c : Thread nD τ).loc main_arg1) = Layout.blockN ⟨2, ![512, 2]⟩ ⟨2, ![512, 4]⟩ (Layout.meshBlock [2, 2, 2] ![[], [1]] c) R
  ∧ m ((c : Thread nD τ).loc main_arg2) = Layout.blockN ⟨3, ![2, 512, 1024]⟩ ⟨3, ![4, 512, 1024]⟩ (Layout.meshBlock [2, 2, 2] ![[1], [], []] c) A
  ∧ m ((c : Thread nD τ).loc main_arg3) = Layout.blockN ⟨3, ![2, 1024, 512]⟩ ⟨3, ![4, 1024, 512]⟩ (Layout.meshBlock [2, 2, 2] ![[1], [], []] c) B

theorem mesh_y (c : Dev nD) : Layout.meshLin [2, 2, 2] c.val [1] = c.val / 2 % 2 := by revert c; decide

theorem block_row {α : Type} (V : Tokens.Idx → α) (c : Dev nD) (a : Fin 256) (b : Fin 512) :
    (Layout.blockN ⟨2, ![256, 512]⟩ ⟨2, ![512, 512]⟩ (Layout.meshBlock [2, 2, 2] ![[1], []] c) V) (ix2 a b) = V (ix2 (blockRow (yOf c) a) b) := by
  rw [Layout.blockN_apply]
  refine congrArg V (funext fun d => Fin.ext ?_)
  rw [Layout.TilesN.idx_val]
  revert d
  refine Fin.forall_fin_two.mpr ⟨?_, ?_⟩
  · show Layout.meshLin [2, 2, 2] c.val [1] * 256 + a.val = 256 * (c.val / 2 % 2) + a.val
    rw [mesh_y, Nat.mul_comm]
  · show 0 * 512 + b.val = b.val
    omega
theorem block_col {α : Type} (V : Table.Idx → α) (c : Dev nD) (p : Fin 512) (e : Fin 2) :
    (Layout.blockN ⟨2, ![512, 2]⟩ ⟨2, ![512, 4]⟩ (Layout.meshBlock [2, 2, 2] ![[], [1]] c) V) (ix2 p e) = V (ix2 p (nth (yOf c) e)) := by
  rw [Layout.blockN_apply]
  refine congrArg V (funext fun d => Fin.ext ?_)
  rw [Layout.TilesN.idx_val]
  revert d
  refine Fin.forall_fin_two.mpr ⟨?_, ?_⟩
  · show 0 * 512 + p.val = p.val
    omega
  · show Layout.meshLin [2, 2, 2] c.val [1] * 2 + e.val = 2 * (c.val / 2 % 2) + e.val
    rw [mesh_y, Nat.mul_comm]
theorem block_expert {α : Type} {n k : ℕ} (V : (⟨3, ![4, n, k]⟩ : Shape).Idx → α) (c : Dev nD) (e : Fin 2) (p : Fin n) (q : Fin k)
    (h : Layout.TilesN ⟨3, ![2, n, k]⟩ ⟨3, ![4, n, k]⟩ fun b => Layout.cutSize [2, 2, 2] (![[1], [], []] b)) :
    Layout.blockN ⟨3, ![2, n, k]⟩ ⟨3, ![4, n, k]⟩ (Layout.meshBlock [2, 2, 2] ![[1], [], []] c) V h (ix3 e p q) = V (ix3 (nth (yOf c) e) p q) := by
  rw [Layout.blockN_apply]
  refine congrArg V (funext fun d => Fin.ext ?_)
  rw [Layout.TilesN.idx_val]
  revert d
  refine Fin.forall_fin_succ.mpr ⟨?_, Fin.forall_fin_two.mpr ⟨?_, ?_⟩⟩
  · show Layout.meshLin [2, 2, 2] c.val [1] * 2 + e.val = 2 * (c.val / 2 % 2) + e.val
    rw [mesh_y, Nat.mul_comm]
  · show 0 * n + p.val = p.val
    omega
  · show 0 * k + q.val = q.val
    omega

/-! ## What the body reads of them -/

theorem xIn_eq (c : Dev nD) : xIn m ρ c = m ((c : Thread nD τ).loc main_arg0) := by
  funext i
  refine congrArg (m ((c : Thread nD τ).loc main_arg0)) (funext fun a => Fin.ext ?_)
  revert a
  refine Fin.forall_fin_two.mpr ⟨?_, ?_⟩
  · show 0 * 256 + 1 * (i 0).val = (i 0).val
    omega
  · show 0 * 512 + 1 * (i 1).val = (i 1).val
    omega
theorem rIn_eq (c : Dev nD) : rIn m ρ c = m ((c : Thread nD τ).loc main_arg1) := by
  funext i
  refine congrArg (m ((c : Thread nD τ).loc main_arg1)) (funext fun a => Fin.ext ?_)
  revert a
  refine Fin.forall_fin_two.mpr ⟨?_, ?_⟩
  · show 0 * 512 + 1 * (i 0).val = (i 0).val
    omega
  · show 0 * 2 + 1 * (i 1).val = (i 1).val
    omega
theorem w1In_eq (c : Dev nD) : w1In m ρ c = m ((c : Thread nD τ).loc main_arg2) := by
  funext i
  refine congrArg (m ((c : Thread nD τ).loc main_arg2)) (funext fun a => Fin.ext ?_)
  revert a
  refine Fin.forall_fin_succ.mpr ⟨?_, Fin.forall_fin_two.mpr ⟨?_, ?_⟩⟩
  · show 0 * 2 + 1 * (i 0).val = (i 0).val
    omega
  · show 0 * 512 + 1 * (i 1).val = (i 1).val
    omega
  · show 0 * 1024 + 1 * (i 2).val = (i 2).val
    omega
theorem w2In_eq (c : Dev nD) : w2In m ρ c = m ((c : Thread nD τ).loc main_arg3) := by
  funext i
  refine congrArg (m ((c : Thread nD τ).loc main_arg3)) (funext fun a => Fin.ext ?_)
  revert a
  refine Fin.forall_fin_succ.mpr ⟨?_, Fin.forall_fin_two.mpr ⟨?_, ?_⟩⟩
  · show 0 * 2 + 1 * (i 0).val = (i 0).val
    omega
  · show 0 * 1024 + 1 * (i 1).val = (i 1).val
    omega
  · show 0 * 512 + 1 * (i 2).val = (i 2).val
    omega

theorem mine_apply (c : Dev nD) (a : Fin 128) (b : Fin 512) : mine m ρ c (ix2 a b) = xIn m ρ c (ix2 (halfRow c a) b) := by
  refine congrArg (xIn m ρ c) (funext fun d => Fin.ext ?_)
  have h : ∀ d, k0_off2 c d + 1 * ((ix2 a b : S128x512.Idx) d).val = ((ix2 (halfRow c a) b : S256x512.Idx) d).val := by
    rw [k0_off2_eq]
    refine Fin.forall_fin_two.mpr ⟨?_, ?_⟩
    · show 128 * (c.val % 2) + 1 * a.val = 128 * (c.val % 2) + a.val
      omega
    · show 0 + 1 * b.val = b.val
      omega
  exact h d
theorem tokIn_apply (c : Dev nD) (a : Fin 128) (b : Fin 512) : tokIn m ρ c (ix2 a b) = xIn m ρ (yp c) (ix2 (halfRow (yp c) a) b) := by
  refine congrArg (xIn m ρ (yp c)) (funext fun d => Fin.ext ?_)
  have h : ∀ d, k0_off1 (yp c) d + 1 * ((ix2 a b : S128x512.Idx) d).val = ((ix2 (halfRow (yp c) a) b : S256x512.Idx) d).val := by
    rw [k0_off1_eq]
    refine Fin.forall_fin_two.mpr ⟨?_, ?_⟩
    · show 128 * ((yp c).val % 2) + 1 * a.val = 128 * ((yp c).val % 2) + a.val
      omega
    · show 0 + 1 * b.val = b.val
      omega
  exact h d

theorem at_expert {n k : ℕ} (e : Fin 2) (p : Fin n) (q : Fin k) (i : (⟨3, ![2, n, k]⟩ : Shape).Idx)
    (h0 : (i 0).val = e.val + 1 * 0) (h1 : (i 1).val = 0 + 1 * p.val) (h2 : (i 2).val = 0 + 1 * q.val) : i = ix3 e p q := by
  refine funext fun d => Fin.ext ?_
  revert d
  refine Fin.forall_fin_succ.mpr ⟨?_, Fin.forall_fin_two.mpr ⟨?_, ?_⟩⟩
  · exact h0
  · exact h1.trans (by rw [Nat.zero_add, Nat.one_mul]; rfl)
  · exact h2.trans (by rw [Nat.zero_add, Nat.one_mul]; rfl)

theorem w1At0_apply (c : Dev nD) (p : Fin 512) (q : Fin 1024) : w1At0 m ρ c (ix3 0 p q) = w1In m ρ c (ix3 0 p q) :=
  congrArg (w1In m ρ c) (at_expert 0 p q _ rfl rfl rfl)
theorem w1At1_apply (c : Dev nD) (p : Fin 512) (q : Fin 1024) : w1At1 m ρ c (ix3 0 p q) = w1In m ρ c (ix3 1 p q) :=
  congrArg (w1In m ρ c) (at_expert 1 p q _ rfl rfl rfl)
theorem w2At0_apply (c : Dev nD) (q : Fin 1024) (l : Fin 512) : w2At0 m ρ c (ix3 0 q l) = w2In m ρ c (ix3 0 q l) :=
  congrArg (w2In m ρ c) (at_expert 0 q l _ rfl rfl rfl)
theorem w2At1_apply (c : Dev nD) (q : Fin 1024) (l : Fin 512) : w2At1 m ρ c (ix3 0 q l) = w2In m ρ c (ix3 1 q l) :=
  congrArg (w2In m ρ c) (at_expert 1 q l _ rfl rfl rfl)

/-- And the window on the result is all of it. -/
theorem res_read (c : Dev nD) (i : S256x512.Idx) :
    (win0_4.blk (0 : Fin 1)).view.read (Elt Ideal) (m ((c : Thread nD τ).loc main_v1)) i = m ((c : Thread nD τ).loc main_v1) i := by
  refine congrArg (m ((c : Thread nD τ).loc main_v1)) (funext fun a => Fin.ext ?_)
  revert a
  refine Fin.forall_fin_two.mpr ⟨?_, ?_⟩
  · show 0 * 256 + 1 * (i 0).val = (i 0).val
    omega
  · show 0 * 512 + 1 * (i 1).val = (i 1).val
    omega

/-! ## The pairs and their sum -/

/-- What the two experts at place `y` add for token `i`, at column `l`; -/
def pair (i l : Fin 512) (y : Fin 2) : EReal :=
  answer X A B i l (nth y 0) * share (gate X R i) (nth y 0) + answer X A B i l (nth y 1) * share (gate X R i) (nth y 1)
/-- what all four do; -/
def all (i l : Fin 512) : EReal := ∑ e, answer X A B i l e * share (gate X R i) e
/-- and that is the two pairs, in either order. -/
theorem pair_add_pair (i l : Fin 512) (y : Fin 2) : pair X R A B i l y + pair X R A B i l (flip y) = all X R A B i l := by
  unfold all
  rw [Fin.sum_univ_four]
  have h : pair X R A B i l 0 + pair X R A B i l 1 = answer X A B i l 0 * share (gate X R i) 0 + answer X A B i l 1 * share (gate X R i) 1
      + answer X A B i l 2 * share (gate X R i) 2 + answer X A B i l 3 * share (gate X R i) 3 := (add_assoc _ _ _).symm
  rw [← h]
  fin_cases y
  · rfl
  · exact add_comm _ _

variable {X R A B m}

/-- A token's gates as device `c` lists them. -/
theorem gateRow_eq (H : Holds X R A B m) (c : Dev nD) (i : Fin 512) :
    gateRow (fun p => X (ix2 i p)) (rIn m ρ c) (rIn m ρ (yp c)) = gate X R i ∘ listed (yOf c) := by
  funext e
  unfold gateRow
  show _ = gate X R i (listed (yOf c) e)
  rw [rIn_eq, rIn_eq, (H c).2.1, (H (yp c)).2.1]
  by_cases h : e.val < 2
  · rw [dif_pos h, listed_own _ _ h]
    exact Finset.sum_congr rfl fun p _ => congrArg (X (ix2 i p) * ·) (block_col R c p _)
  · rw [dif_neg h, listed_other _ _ h, ← yOf_yp]
    exact Finset.sum_congr rfl fun p _ => congrArg (X (ix2 i p) * ·) (block_col R (yp c) p _)

/-- Device `c`'s two experts on a half block of tokens. -/
theorem experts_pair (H : Holds X R A B m) (c : Dev nD) (t : Vec Ideal S128x512 .f32) (a : Fin 128) (i l : Fin 512)
    (ht : ∀ p, t (ix2 a p) = X (ix2 i p)) :
    experts (rIn m ρ c) (rIn m ρ (yp c)) t (w1At0 m ρ c) (w1At1 m ρ c) (w2At0 m ρ c) (w2At1 m ρ c) (ix2 a l)
      = pair X R A B i l (yOf c) := by
  rw [experts_apply, show (fun p => t (ix2 a p)) = fun p => X (ix2 i p) from funext ht, gateRow_eq ρ H, share_comp, share_comp,
    listed_own _ 0 (by decide), listed_own _ 1 (by decide)]
  have h1 : ∀ (e : Fin 2) p q, w1In m ρ c (ix3 e p q) = A (ix3 (nth (yOf c) e) p q) := fun e p q => by
    rw [w1In_eq, (H c).2.2.1]; exact block_expert A c e p q _
  have h2 : ∀ (e : Fin 2) q l, w2In m ρ c (ix3 e q l) = B (ix3 (nth (yOf c) e) q l) := fun e q l => by
    rw [w2In_eq, (H c).2.2.2]; exact block_expert B c e q l _
  simp only [w1At0_apply, w1At1_apply, w2At0_apply, w2At1_apply, h1, h2]
  rfl

theorem xIn_apply (H : Holds X R A B m) (c : Dev nD) (a : Fin 256) (b : Fin 512) : xIn m ρ c (ix2 a b) = X (ix2 (blockRow (yOf c) a) b) := by
  rw [xIn_eq, (H c).1]; exact block_row X c a b

theorem oMine_apply (H : Holds X R A B m) (c : Dev nD) (a : Fin 128) (l : Fin 512) :
    oMine m ρ c (ix2 a l) = pair X R A B (blockRow (yOf c) (halfRow c a)) l (yOf c) := by
  unfold oMine oMineVal
  rw [experts'_eq]
  exact experts_pair ρ H c _ a _ l fun p => (mine_apply m ρ c a p).trans (xIn_apply ρ H c _ p)
theorem cOut_apply (H : Holds X R A B m) (c : Dev nD) (a : Fin 128) (l : Fin 512) :
    cOut m ρ c (ix2 a l) = pair X R A B (blockRow (yOf (yp c)) (halfRow (yp c) a)) l (yOf c) := by
  unfold cOut cOutVal
  exact experts_pair ρ H c _ a _ l fun p => (tokIn_apply m ρ c a p).trans (xIn_apply ρ H (yp c) _ p)

/-- What device `c` has of the half it works on, once the y neighbour's part has come back. -/
theorem both_apply (H : Holds X R A B m) (c : Dev nD) (a : Fin 128) (l : Fin 512) :
    HAdd.hAdd (α := EReal) (β := EReal) (oMine m ρ c (ix2 a l)) (cIn m ρ c (ix2 a l)) = all X R A B (blockRow (yOf c) (halfRow c a)) l := by
  unfold cIn
  rw [oMine_apply ρ H, cOut_apply ρ H, yp_yp, yOf_yp]
  exact pair_add_pair X R A B _ l (yOf c)

/-- The kernel's result at one token and one column. -/
theorem out_apply (H : Holds X R A B m) (c : Dev nD) (a : Fin 256) (l : Fin 512) :
    outAt m ρ c (ix2 a l) = all X R A B (blockRow (yOf c) a) l := by
  have ha : a.val < 256 := a.isLt
  have hc : c.val % 2 < 2 := Nat.mod_lt _ (by decide)
  let b : Fin 128 := ⟨a.val % 128, Nat.mod_lt _ (by decide)⟩
  by_cases h : a.val / 128 = c.val % 2
  · have hr : halfRow c b = a := Fin.ext (by show 128 * (c.val % 2) + a.val % 128 = a.val; omega)
    exact (outOver_mine m ρ c _ (ix2 a l) h).trans ((both_apply ρ H c b l).trans (by rw [hr]))
  · have hr : halfRow (zn c) b = a := Fin.ext (by show 128 * ((zn c).val % 2) + a.val % 128 = a.val; rw [zn_mod]; omega)
    refine (outOver_other m ρ c _ (ix2 a l) h).trans ((both_apply ρ H (zn c) b l).trans (by rw [hr, yOf_zn]))

end Blocks

end Cert.KernelIdeal.Moe

end
-- ==== Proof.RefValue.lean ====
/-
  The reference's result at one token and one column (`res_apply`): over the four experts, each one's answer for the token
  (`Cert.Moe.answer`) times the weight that the order of the token's gates gives it (`Cert.Moe.chosen`). And what the mask says of a
  token (`mask_row`): its largest gate is finite and its three greatest gates differ.
-/
module

public import proofs.«01_k».proof.Proof.Gen.ReferenceIdeal.Run
public import proofs.«01_k».proof.On_untied
public import proofs.«01_k».proof.Proof.TopRows
public import Idealize.ShloMosaic.Lib.Pointwise

@[expose] public section

noncomputable section

namespace Cert.ReferenceIdeal.Moe

open Idealize.ShloMosaic Idealize.SL.Sem Cert.ReferenceIdeal Cert.ReferenceIdeal.Gen Cert.ReferenceIdeal.Value Cert.Moe
open scoped BigOperators

/-- The reference's weight of an expert, of the values and the columns that `lax.top_k` lists. -/
def worded (V : Fin 2 → EReal) (I : Fin 2 → BitVec 32) (e : Fin 4) : EReal :=
  ∑ k, Scalar.select (IntOp.cmpi .eq (I k) (BitVec.ofNat 32 e.val)) (soft V k) 0

theorem worded_eq (g : Fin 4 → EReal) (e : Fin 4) :
    worded (fun k => g (order g (k.castLE (by decide)))) (fun k => BitVec.ofNat 32 (order g (k.castLE (by decide))).val) e
      = chosen g (order g) e := by
  unfold worded chosen
  refine Finset.sum_congr rfl fun k _ => ?_
  have hw : ∀ a b : Fin 4, IntOp.cmpi .eq (BitVec.ofNat 32 a.val) (BitVec.ofNat 32 b.val) = if a = b then 1#1 else 0#1 := by decide
  rw [hw]
  split
  · rfl
  · rfl

theorem dot_row (x : FVec Ideal S512x512 .f32) (r : FVec Ideal S512x4 .f32) (i : Fin 512) :
    row (Host.dotGeneral dot_S512x512_S512x4_S512x4_1_0_0_1_n_n none x r) i = gate x r i := by
  funext e
  unfold row gate
  pointwise []

/-- The reference's result at one token and one column. -/
theorem res_apply (m : (ℓ : Loc nD τ sig) → Buf (Elt Ideal) ℓ) (c : Dev nD) (i l : Fin 512) :
    res_out0 m c (ix2 i l) = ∑ e : Fin 4,
      answer (m (c.tc.loc main_arg0)) (m (c.tc.loc main_arg2)) (m (c.tc.loc main_arg3)) i l e
        * chosen (gate (m (c.tc.loc main_arg0)) (m (c.tc.loc main_arg1)) i) (order (gate (m (c.tc.loc main_arg0)) (m (c.tc.loc main_arg1)) i)) e := by
  simp only [← worded_eq]
  let x : FVec Ideal S512x512 .f32 := m (c.tc.loc main_arg0)
  let r : FVec Ideal S512x4 .f32 := m (c.tc.loc main_arg1)
  let G : FVec Ideal Table .f32 := Host.dotGeneral dot_S512x512_S512x4_S512x4_1_0_0_1_n_n none x r
  have hG : row G i = gate (m (c.tc.loc main_arg0)) (m (c.tc.loc main_arg1)) i := dot_row x r i
  have hV := fun k : Fin 2 => (topK_value (by decide) G sliceFits_S512x4_S512x2 i k).trans
    (congrArg (fun g => g (order g (k.castLE (by decide)))) hG)
  have hI := fun k : Fin 2 => (topK_index (by decide) G sliceFits_S512x4_S512x2 i k).trans
    (congrArg (fun g => BitVec.ofNat 32 (order g (k.castLE (by decide))).val) hG)
  rw [← funext hV, ← funext hI]
  unfold res_out0 res_main_v74
  generalize Host.topK S512x2 1 (FloatOps.cmpfTotal (F := Ideal) (φ := .f32) .gt) _ _ = VI
  obtain ⟨V, I⟩ := VI
  dsimp only
  rw [Fin.sum_univ_four]
  pointwise [id, worded, answer, soft, rise, best]
  rw [ofBits_negInf]

/-! ## The mask -/

variable [Cert.On_untied.Facts]

theorem mask_row (x : FVec Ideal S512x512 .f32) (r : FVec Ideal S512x4 .f32) (a : FVec Ideal S4x512x1024 .f32) (b : FVec Ideal S4x1024x512 .f32)
    (i l : Fin 512) (h : Cert.On_untied.fn x r a b (ix2 i l) = 1#1) :
    gate x r i (order (gate x r i) 0) < ⊤ ∧ gate x r i (order (gate x r i) 1) < gate x r i (order (gate x r i) 0)
      ∧ gate x r i (order (gate x r i) 2) < gate x r i (order (gate x r i) 1) := by
  have hV := fun k : Fin 3 => topK_value (show 3 ≤ 4 by decide)
    (Host.dotGeneral Cert.On_untied.dot_S512x512_S512x4_S512x4_1_0_0_1_n_n none x r) Cert.On_untied.Facts.sliceFits_S512x4_S512x3 i k
  have hd : row (Host.dotGeneral Cert.On_untied.dot_S512x512_S512x4_S512x4_1_0_0_1_n_n none x r) i = gate x r i := by
    funext e
    unfold row gate
    pointwise []
  rw [hd] at hV
  have h0 := hV 0
  have h1 := hV 1
  have h2 := hV 2
  unfold Cert.On_untied.fn at h
  dsimp only at h
  generalize Host.topK Cert.On_untied.S512x3 1 (FloatOps.cmpfTotal (F := Ideal) (φ := .f32) .gt) _ _ = VI at h h0 h1 h2
  obtain ⟨V, I⟩ := VI
  dsimp only at h h0 h1 h2
  pointwise [] at h
  have hb : ∀ p q s : Bool, IntOp.andi (IntOp.andi (BitVec.ofBool p) (BitVec.ofBool q)) (BitVec.ofBool s) = 1#1 → p = true ∧ q = true ∧ s = true := by
    decide
  obtain ⟨hf, h01, h12⟩ := hb _ _ _ h
  rw [ofBits_posInf] at hf
  refine ⟨?_, ?_, ?_⟩
  · exact lt_of_eq_of_lt h0.symm (of_decide_eq_true hf)
  · exact lt_of_eq_of_lt h1.symm ((of_decide_eq_true h01).trans_eq h0)
  · exact lt_of_eq_of_lt h2.symm ((of_decide_eq_true h12).trans_eq h1)

end Cert.ReferenceIdeal.Moe

end
-- ==== Proof.lean ====
/-
The five claims, assembled: each program's run, and what the runs leave.
-/
module

public import proofs.«01_k».proof.Defs
public import proofs.«01_k».proof.Proof.Bits.Run
public import proofs.«01_k».proof.Proof.Run
public import proofs.«01_k».proof.Proof.KValue
public import proofs.«01_k».proof.Proof.RefValue
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_untied
public import Idealize.ShloMosaic.Adequacy
public import Idealize.ShloMosaic.Init

@[expose] public section

noncomputable section

namespace Cert.Proof

open Idealize.ShloMosaic Idealize.SL.Sem

/-- The kernel as printed runs, keeps its arguments and ends with every counter at zero. -/
theorem frame_kernel : Cert.quiescent_Kernel (hKernel := Cert.Kernel.Gen.facts) := fun m ρ _ =>
  (θ_run Cert.Kernel.defs _ _).mono (fun _ h => ⟨fun c => (h.1 c).2, h.2⟩) (Cert.Kernel.Moe.run (F := Bits) m ρ)

/-- So does its idealization, -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Moe.run (F := Ideal) m ρ)

/-- and the reference, which has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- What the kernel writes for a token whose gates the mask lets through is what the reference writes: the shares of the
    four gates are the weights the reference gives them. -/
theorem all_eq (m' : (ℓ : Loc Cert.ReferenceIdeal.nD Cert.ReferenceIdeal.τ Cert.ReferenceIdeal.sig) → Buf (Elt Ideal) ℓ) (c : Dev Cert.ReferenceIdeal.nD)
    (i l : Fin 512)
    (h : haveI := Cert.On_untied.Gen.facts
      Cert.On_untied.fn (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (ix2 i l) = 1#1) :
    Cert.KernelIdeal.Moe.all (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) i l
      = Cert.ReferenceIdeal.Value.res_out0 m' c (ix2 i l) := by
  haveI := Cert.On_untied.Gen.facts
  obtain ⟨hfin, h01, h12⟩ := Cert.ReferenceIdeal.Moe.mask_row _ _ _ _ i l h
  rw [Cert.ReferenceIdeal.Moe.res_apply]
  exact Finset.sum_congr rfl fun e _ => congrArg (_ * ·) (Cert.Moe.share_eq_chosen _ hfin h01 h12 e)

/-- The block of the result a device ends with is its block of the reference's result, where the mask is set. -/
theorem algebraic : Cert.algebraic_KernelIdeal_ReferenceIdeal_on_untied (hKernelIdeal := Cert.KernelIdeal.Gen.facts)
    (hReferenceIdeal := Cert.ReferenceIdeal.Gen.facts) (hOn_untied := Cert.On_untied.Gen.facts) := fun m ρ m' ρ' _ H =>
  ⟨Cert.ReferenceIdeal.Value.res_out0 m' 0,
    (θ_run Cert.KernelIdeal.defs _ _).mono (fun r h c => ⟨fun i hi => by
      obtain ⟨a, l, rfl⟩ : ∃ a l, i = ix2 a l := ⟨i 0, i 1, funext fun d => by revert d; exact Fin.forall_fin_two.mpr ⟨rfl, rfl⟩⟩
      rw [Cert.KernelIdeal.Moe.block_row] at hi ⊢
      rw [← all_eq m' 0 _ l hi, ← Cert.KernelIdeal.Moe.out_apply ρ H c a l, ← (h.1 c).1]
      exact (Cert.KernelIdeal.Moe.res_read r.2.mem c _).symm, (h.1 c).2⟩) (Cert.KernelIdeal.Moe.run (F := Ideal) m ρ),
    (θ_run Cert.ReferenceIdeal.defs _ _).mono (fun r h => ⟨fun i _ => congrFun (h 0).1 i, (h 0).2⟩)
      (Cert.ReferenceIdeal.Value.run (F := Ideal) m' ρ')⟩

theorem claim : Cert.Claim := ⟨Cert.Kernel.Gen.facts, Cert.KernelIdeal.Gen.facts, Cert.ReferenceIdeal.Gen.facts, Cert.On_untied.Gen.facts,
  frame_kernel, frame_ideal, frame_reference, trivial, algebraic⟩

end Cert.Proof

end
